-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log_eps" .f32 0xC1935D8E#32 ((Real.log (11258999 / 1125899906842624) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x16384x64 : Shape := ⟨3, ![64, 16384, 64]⟩
abbrev S64x199 : Shape := ⟨2, ![64, 199]⟩
abbrev S64x4x16384 : Shape := ⟨3, ![64, 4, 16384]⟩
abbrev S_ : Shape := ⟨0, ![]⟩

class Facts : Prop where
  bcast_S_S64x16384x64 : S_.BroadcastsInDim S64x16384x64 (![] : Fin 0 → Fin S64x16384x64.rank)
  bcast_S_S64x199 : S_.BroadcastsInDim S64x199 (![] : Fin 0 → Fin S64x199.rank)

variable [Facts]

def fn {F : FTy → Type} [FloatOps F] (main_arg0 : FVec F S64x16384x64 .f32) (main_arg1 : FVec F S64x199 .f32) (main_arg2 : FVec F S64x4x16384 .f32) : IVec S64x16384x64 1 × IVec S64x199 1 :=
  let main_v0 : FVec F S64x16384x64 .f32 := Host.absf main_arg0
  let main_cst : FVec F S_ .f32 := constant S_ .f32 0x7F800000#32
  let main_v1 : FVec F S64x16384x64 .f32 := broadcastInDim S64x16384x64 ![] bcast_S_S64x16384x64 main_cst
  let main_v2 : IVec S64x16384x64 1 := cmpf .olt main_v0 main_v1
  let main_v3 : FVec F S64x199 .f32 := Host.absf main_arg1
  let main_cst_0 : FVec F S_ .f32 := constant S_ .f32 0x7F800000#32
  let main_v4 : FVec F S64x199 .f32 := broadcastInDim S64x199 ![] bcast_S_S64x199 main_cst_0
  let main_v5 : IVec S64x199 1 := cmpf .olt main_v3 main_v4
  (main_v2, main_v5)
-- ==== Kernel.lean ====
abbrev S64x16384x64 : Shape := ⟨3, ![64, 16384, 64]⟩
abbrev S64x199 : Shape := ⟨2, ![64, 199]⟩
abbrev S64x4x16384 : Shape := ⟨3, ![64, 4, 16384]⟩
abbrev S64x64x16384 : Shape := ⟨3, ![64, 64, 16384]⟩
abbrev S64x1x199 : Shape := ⟨3, ![64, 1, 199]⟩
abbrev S2x64x16384 : Shape := ⟨3, ![2, 64, 16384]⟩
abbrev S2x1x199 : Shape := ⟨3, ![2, 1, 199]⟩
abbrev S2x1x64 : Shape := ⟨3, ![2, 1, 64]⟩
abbrev S2x1x1 : Shape := ⟨3, ![2, 1, 1]⟩
abbrev S2x1x16384 : Shape := ⟨3, ![2, 1, 16384]⟩
abbrev S2x1 : Shape := ⟨2, ![2, 1]⟩
abbrev S2 : Shape := ⟨1, ![2]⟩
abbrev S1x1x16384 : Shape := ⟨3, ![1, 1, 16384]⟩
abbrev S2x64x64 : Shape := ⟨3, ![2, 64, 64]⟩
abbrev S2x64x1 : Shape := ⟨3, ![2, 64, 1]⟩

abbrev nBuf : Space → Nat
  | .hbm => 7
  | .vmem => 6
  | .smem => 0
  | _ => 0

abbrev bufTy : (tb : Table) → Fin (tcTables nBuf tb) → BufTy
  | .hbm, ⟨0, _⟩ => ⟨S64x16384x64, .f32⟩
  | .hbm, ⟨1, _⟩ => ⟨S64x199, .f32⟩
  | .hbm, ⟨2, _⟩ => ⟨S64x4x16384, .f32⟩
  | .hbm, ⟨3, _⟩ => ⟨S64x64x16384, .f32⟩
  | .hbm, ⟨4, _⟩ => ⟨S64x1x199, .f32⟩
  | .hbm, ⟨5, _⟩ => ⟨S64x64x16384, .f32⟩
  | .hbm, ⟨6, _⟩ => ⟨S64x16384x64, .f32⟩
  | .local _ .vmem, ⟨0, _⟩ => ⟨S2x64x16384, .f32⟩
  | .local _ .vmem, ⟨1, _⟩ => ⟨S2x64x16384, .f32⟩
  | .local _ .vmem, ⟨2, _⟩ => ⟨S2x1x199, .f32⟩
  | .local _ .vmem, ⟨3, _⟩ => ⟨S2x1x199, .f32⟩
  | .local _ .vmem, ⟨4, _⟩ => ⟨S2x64x16384, .f32⟩
  | .local _ .vmem, ⟨5, _⟩ => ⟨S2x64x16384, .f32⟩
  | _, _ => ⟨S64x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x199 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "log_eps" => some ((Real.log (11258999 / 1125899906842624) : ℝ) : EReal)
  | _ => none
-- ==== ReferenceIdeal.lean ====
abbrev S64x16384x64 : Shape := ⟨3, ![64, 16384, 64]⟩
abbrev S64x199 : Shape := ⟨2, ![64, 199]⟩
abbrev S64x4x16384 : Shape := ⟨3, ![64, 4, 16384]⟩
abbrev S64x64 : Shape := ⟨2, ![64, 64]⟩
abbrev S64x4 : Shape := ⟨2, ![64, 4]⟩
abbrev S64x1 : Shape := ⟨2, ![64, 1]⟩
abbrev S_ : Shape := ⟨0, ![]⟩
abbrev S64x1x64 : Shape := ⟨3, ![64, 1, 64]⟩
abbrev S64x1x16384x64 : Shape := ⟨4, ![64, 1, 16384, 64]⟩
abbrev S64x1x1x64 : Shape := ⟨4, ![64, 1, 1, 64]⟩
abbrev S64x1x1 : Shape := ⟨3, ![64, 1, 1]⟩
abbrev S64x1x16384 : Shape := ⟨3, ![64, 1, 16384]⟩
abbrev S64x16384 : Shape := ⟨2, ![64, 16384]⟩
abbrev S64x16384x1 : Shape := ⟨3, ![64, 16384, 1]⟩
abbrev S1 : Shape := ⟨1, ![1]⟩
abbrev S1x1x1 : Shape := ⟨3, ![1, 1, 1]⟩
abbrev S64 : Shape := ⟨1, ![64]⟩
abbrev S16384x64 : Shape := ⟨2, ![16384, 64]⟩
abbrev S1x64 : Shape := ⟨2, ![1, 64]⟩
abbrev S64x16383 : Shape := ⟨2, ![64, 16383]⟩
abbrev S64x16384x2 : Shape := ⟨3, ![64, 16384, 2]⟩

abbrev nBuf : Space → Nat
  | .hbm => 206
  | .vmem => 0
  | .smem => 0
  | _ => 0

abbrev hbmTy0_0 (i : Nat) : BufTy := match i % 128 with
  | 0 => ⟨S64x16384x64, .f32⟩
  | 1 => ⟨S64x199, .f32⟩
  | 2 => ⟨S64x4x16384, .f32⟩
  | 3 => ⟨S64x64, .f32⟩
  | 4 => ⟨S64x64, .f32⟩
  | 5 => ⟨S64x64, .f32⟩
  | 6 => ⟨S64x4, .f32⟩
  | 7 => ⟨S64x1, .f32⟩
  | 8 => ⟨S64x1, .f32⟩
  | 9 => ⟨S64x1, .f32⟩
  | 10 => ⟨S_, .f32⟩
  | 11 => ⟨S64x1, .f32⟩
  | 12 => ⟨S64x1, .f32⟩
  | 13 => ⟨S64x1, .f32⟩
  | 14 => ⟨S64x1, .f32⟩
  | 15 => ⟨S64x1, .i1⟩
  | 16 => ⟨S64x1, .f32⟩
  | 17 => ⟨S64x1, .f32⟩
  | 18 => ⟨S64x1, .f32⟩
  | 19 => ⟨S64x1, .f32⟩
  | 20 => ⟨S64x1, .f32⟩
  | 21 => ⟨S64x1, .f32⟩
  | 22 => ⟨S64x1, .f32⟩
  | 23 => ⟨S64x1, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S64x4, .f32⟩
  | 33 => ⟨S64x4, .f32⟩
  | 34 => ⟨S_, .f32⟩
  | 35 => ⟨S64x4, .f32⟩
  | 36 => ⟨S64x4, .f32⟩
  | 37 => ⟨S_, .f32⟩
  | 38 => ⟨S64x4, .f32⟩
  | 39 => ⟨S64x4, .f32⟩
  | 40 => ⟨S64x1, .f32⟩
  | 41 => ⟨S64x1, .f32⟩
  | 42 => ⟨S_, .f32⟩
  | 43 => ⟨S64x1, .f32⟩
  | 44 => ⟨S64x1, .f32⟩
  | 45 => ⟨S_, .f32⟩
  | 46 => ⟨S64x1, .f32⟩
  | 47 => ⟨S64x1, .f32⟩
  | 48 => ⟨S64x1, .f32⟩
  | 49 => ⟨S64x1, .f32⟩
  | 50 => ⟨S_, .f32⟩
  | 51 => ⟨S64x1, .f32⟩
  | 52 => ⟨S64x1, .f32⟩
  | 53 => ⟨S_, .f32⟩
  | 54 => ⟨S64x1, .f32⟩
  | 55 => ⟨S64x1, .f32⟩
  | 56 => ⟨S64x1x64, .f32⟩
  | 57 => ⟨S64x1x16384x64, .f32⟩
  | 58 => ⟨S64x1x1x64, .f32⟩
  | 59 => ⟨S64x1x1x64, .f32⟩
  | 60 => ⟨S_, .f32⟩
  | 61 => ⟨S64x1x1, .f32⟩
  | 62 => ⟨S64x1x1, .f32⟩
  | 63 => ⟨S64x1x16384x64, .f32⟩
  | 64 => ⟨S_, .f32⟩
  | 65 => ⟨S64x1x16384, .f32⟩
  | 66 => ⟨S64x1x16384, .f32⟩
  | 67 => ⟨S64x1x16384, .f32⟩
  | 68 => ⟨S64x1x16384, .f32⟩
  | 69 => ⟨S64x1x16384x64, .f32⟩
  | 70 => ⟨S64x1x16384x64, .f32⟩
  | 71 => ⟨S_, .f32⟩
  | 72 => ⟨S64x1x16384, .f32⟩
  | 73 => ⟨S_, .f32⟩
  | 74 => ⟨S64x1x16384, .f32⟩
  | 75 => ⟨S64x1x16384, .f32⟩
  | 76 => ⟨S64x1x16384, .f32⟩
  | 77 => ⟨S64x1x1, .f32⟩
  | 78 => ⟨S64x1x16384, .f32⟩
  | 79 => ⟨S64x1x16384, .f32⟩
  | 80 => ⟨S_, .f32⟩
  | 81 => ⟨S64x1, .f32⟩
  | 82 => ⟨S_, .f32⟩
  | 83 => ⟨S64x1, .f32⟩
  | 84 => ⟨S64x1, .f32⟩
  | 85 => ⟨S64x1x1, .f32⟩
  | 86 => ⟨S64x1x16384, .f32⟩
  | 87 => ⟨S64x1x16384, .f32⟩
  | 88 => ⟨S64x1x16384, .f32⟩
  | 89 => ⟨S_, .f32⟩
  | 90 => ⟨S64x1, .f32⟩
  | 91 => ⟨S64x1x1, .f32⟩
  | 92 => ⟨S64x1x16384, .f32⟩
  | 93 => ⟨S64x1x16384, .f32⟩
  | 94 => ⟨S64x16384, .f32⟩
  | 95 => ⟨S_, .f32⟩
  | 96 => ⟨S64x16384, .f32⟩
  | 97 => ⟨S_, .f32⟩
  | 98 => ⟨S64x16384, .f32⟩
  | 99 => ⟨S64x16384, .f32⟩
  | 100 => ⟨S_, .f32⟩
  | 101 => ⟨S64x16384, .f32⟩
  | 102 => ⟨S64x16384, .f32⟩
  | 103 => ⟨S64x16384, .i32⟩
  | 104 => ⟨S64x16384, .f32⟩
  | 105 => ⟨S64x16384, .i32⟩
  | 106 => ⟨S_, .i32⟩
  | 107 => ⟨S64x16384, .i32⟩
  | 108 => ⟨S64x16384, .i1⟩
  | 109 => ⟨S_, .i32⟩
  | 110 => ⟨S64x16384, .i32⟩
  | 111 => ⟨S64x16384, .i32⟩
  | 112 => ⟨S64x16384, .i32⟩
  | 113 => ⟨S64x16384x1, .i32⟩
  | 114 => ⟨S1, .i32⟩
  | 115 => ⟨S_, .i32⟩
  | 116 => ⟨S64x16384x1, .i32⟩
  | 117 => ⟨S64x16384x1, .i1⟩
  | 118 => ⟨S1x1x1, .i32⟩
  | 119 => ⟨S64x16384x1, .i32⟩
  | 120 => ⟨S64x16384x1, .i1⟩
  | 121 => ⟨S64x16384x1, .i1⟩
  | 122 => ⟨S_, .i1⟩
  | 123 => ⟨S64x16384, .i1⟩
  | 124 => ⟨S64x16384, .f32⟩
  | 125 => ⟨S_, .f32⟩
  | 126 => ⟨S64x16384, .f32⟩
  | 127 => ⟨S64x16384, .f32⟩
  | _ => ⟨S64x16384x64, .f32⟩

abbrev hbmTy0_1 (i : Nat) : BufTy := match i % 128 with
  | 0 => ⟨S_, .f32⟩
  | 1 => ⟨S64, .f32⟩
  | 2 => ⟨S16384x64, .f32⟩
  | 3 => ⟨S_, .f32⟩
  | 4 => ⟨S16384x64, .f32⟩
  | 5 => ⟨S_, .i32⟩
  | 6 => ⟨S16384x64, .f32⟩
  | 7 => ⟨S_, .i32⟩
  | 8 => ⟨S64, .f32⟩
  | 9 => ⟨S16384x64, .f32⟩
  | 10 => ⟨S_, .i32⟩
  | 11 => ⟨S_, .i1⟩
  | 12 => ⟨S_, .i32⟩
  | 13 => ⟨S1x64, .f32⟩
  | 14 => ⟨S64, .f32⟩
  | 15 => ⟨S64, .f32⟩
  | 16 => ⟨S64, .f32⟩
  | 17 => ⟨S1x64, .f32⟩
  | 18 => ⟨S_, .i32⟩
  | 19 => ⟨S16384x64, .f32⟩
  | 20 => ⟨S_, .i32⟩
  | 21 => ⟨S_, .i32⟩
  | 22 => ⟨S64x16384, .f32⟩
  | 23 => ⟨S_, .f32⟩
  | 24 => ⟨S64x16384, .f32⟩
  | 25 => ⟨S64x16384, .f32⟩
  | 26 => ⟨S64x1, .f32⟩
  | 27 => ⟨S64x16383, .f32⟩
  | 28 => ⟨S64x16383, .f32⟩
  | 29 => ⟨S64x16383, .f32⟩
  | 30 => ⟨S64x16384, .f32⟩
  | 31 => ⟨S_, .f32⟩
  | 32 => ⟨S64x16384, .f32⟩
  | 33 => ⟨S64, .i32⟩
  | 34 => ⟨S64x1, .i32⟩
  | 35 => ⟨S_, .i32⟩
  | 36 => ⟨S64x1, .i32⟩
  | 37 => ⟨S64x1, .i1⟩
  | 38 => ⟨S_, .i32⟩
  | 39 => ⟨S64x1, .i32⟩
  | 40 => ⟨S64x1, .i32⟩
  | 41 => ⟨S64x1, .i32⟩
  | 42 => ⟨S_, .i32⟩
  | 43 => ⟨S64x16384, .i32⟩
  | 44 => ⟨S64x16384, .i1⟩
  | 45 => ⟨S_, .i32⟩
  | 46 => ⟨S64x16384, .i32⟩
  | 47 => ⟨S64x16384, .i32⟩
  | 48 => ⟨S64x16384, .i32⟩
  | 49 => ⟨S64x16384, .i32⟩
  | 50 => ⟨S64x16384x1, .i32⟩
  | 51 => ⟨S64x16384x1, .i32⟩
  | 52 => ⟨S64x16384x2, .i32⟩
  | 53 => ⟨S64x16384, .f32⟩
  | 54 => ⟨S64x16384, .f32⟩
  | 55 => ⟨S64x16384, .f32⟩
  | 56 => ⟨S_, .f32⟩
  | 57 => ⟨S64x1, .f32⟩
  | 58 => ⟨S64x1, .f32⟩
  | 59 => ⟨S64x16384, .f32⟩
  | 60 => ⟨S64x16384, .f32⟩
  | 61 => ⟨S64x16384, .f32⟩
  | 62 => ⟨S64x16384, .f32⟩
  | 63 => ⟨S64x16384, .f32⟩
  | 64 => ⟨S64x16384x1, .f32⟩
  | 65 => ⟨S64x1x64, .f32⟩
  | 66 => ⟨S64x16384x64, .f32⟩
  | 67 => ⟨S64x16384x64, .f32⟩
  | 68 => ⟨S64x16384x64, .f32⟩
  | 69 => ⟨S_, .f32⟩
  | 70 => ⟨S64x16384x64, .f32⟩
  | 71 => ⟨S64x16384x64, .f32⟩
  | 72 => ⟨S64x1x64, .f32⟩
  | 73 => ⟨S64x16384x64, .f32⟩
  | 74 => ⟨S64x16384x64, .f32⟩
  | 75 => ⟨S64x16384x64, .f32⟩
  | 76 => ⟨S64x16384x64, .f32⟩
  | 77 => ⟨S64x16384x64, .f32⟩
  | _ => ⟨S64x16384x64, .f32⟩

abbrev hbmTy (i : Nat) : BufTy := match i / 128 with
  | 0 => hbmTy0_0 i
  | 1 => hbmTy0_1 i
  | _ => ⟨S64x16384x64, .f32⟩

abbrev bufTy : (tb : Table) → Fin (tcTables nBuf tb) → BufTy
  | .hbm, ⟨i, _⟩ => hbmTy i
  | _, _ => ⟨S64x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_cst : Ref sig .tc := ⟨.hbm, 60, rfl⟩
abbrev main_call1_v1 : Ref sig .tc := ⟨.hbm, 61, rfl⟩
abbrev main_v35 : Ref sig .tc := ⟨.hbm, 62, rfl⟩
abbrev main_call2_v0 : Ref sig .tc := ⟨.hbm, 63, rfl⟩
abbrev main_call2_cst : Ref sig .tc := ⟨.hbm, 64, rfl⟩
abbrev main_call2_v1 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_9 : Ref sig .tc := ⟨.hbm, 80, rfl⟩
abbrev main_v48 : Ref sig .tc := ⟨.hbm, 81, rfl⟩
abbrev main_cst_10 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_11 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_v62 : Ref sig .tc := ⟨.hbm, 99, rfl⟩
abbrev main_cst_14 : Ref sig .tc := ⟨.hbm, 100, rfl⟩
abbrev main_v63 : Ref sig .tc := ⟨.hbm, 101, rfl⟩
abbrev main_v64 : Ref sig .tc := ⟨.hbm, 102, rfl⟩
abbrev main_call3_v0 : Ref sig .tc := ⟨.hbm, 103, rfl⟩
abbrev main_call3_v1_0 : Ref sig .tc := ⟨.hbm, 104, rfl⟩
abbrev main_v65 : Ref sig .tc := ⟨.hbm, 105, rfl⟩
abbrev main_call4_c : Ref sig .tc := ⟨.hbm, 106, rfl⟩
abbrev main_call4_v0 : Ref sig .tc := ⟨.hbm, 107, rfl⟩
abbrev main_call4_v1 : Ref sig .tc := ⟨.hbm, 108, rfl⟩
abbrev main_call4_c_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_c_1 : Ref sig .tc := ⟨.hbm, 114, rfl⟩
abbrev main_call4_c_2 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_c_3 : Ref sig .tc := ⟨.hbm, 122, rfl⟩
abbrev main_call4_v12 : Ref sig .tc := ⟨.hbm, 123, rfl⟩
abbrev main_call4_v13 : Ref sig .tc := ⟨.hbm, 124, rfl⟩
abbrev main_call4_cst : Ref sig .tc := ⟨.hbm, 125, rfl⟩
abbrev main_call4_v14 : Ref sig .tc := ⟨.hbm, 126, rfl⟩
abbrev main_v66 : Ref sig .tc := ⟨.hbm, 127, rfl⟩
abbrev main_cst_15 : Ref sig .tc := ⟨.hbm, 128, rfl⟩
abbrev main_v67 : Ref sig .tc := ⟨.hbm, 129, rfl⟩
abbrev main_v68 : Ref sig .tc := ⟨.hbm, 130, rfl⟩
abbrev main_cst_16 : Ref sig .tc := ⟨.hbm, 131, rfl⟩
abbrev main_v69 : Ref sig .tc := ⟨.hbm, 132, rfl⟩
abbrev main_c : Ref sig .tc := ⟨.hbm, 133, rfl⟩
abbrev main_v70_0 : Ref sig .tc := ⟨.hbm, 134, rfl⟩
abbrev main_v70_1 : Ref sig .tc := ⟨.hbm, 135, rfl⟩
abbrev main_v70_2 : Ref sig .tc := ⟨.hbm, 136, rfl⟩
abbrev main_v70_3 : Ref sig .tc := ⟨.hbm, 137, rfl⟩
abbrev main_while0c_c_28 : Ref sig .tc := ⟨.hbm, 138, rfl⟩
abbrev main_while0c_v119 : Ref sig .tc := ⟨.hbm, 139, rfl⟩
abbrev main_while0b_call5_c : Ref sig .tc := ⟨.hbm, 140, rfl⟩
abbrev main_while0b_call5_v0 : Ref sig .tc := ⟨.hbm, 141, rfl⟩
abbrev main_while0b_v119 : Ref sig .tc := ⟨.hbm, 142, rfl⟩
abbrev main_while0b_v120 : Ref sig .tc := ⟨.hbm, 143, rfl⟩
abbrev main_while0b_v121 : Ref sig .tc := ⟨.hbm, 144, rfl⟩
abbrev main_while0b_call6_v0 : Ref sig .tc := ⟨.hbm, 145, rfl⟩
abbrev main_while0b_call6_c : Ref sig .tc := ⟨.hbm, 146, rfl⟩
abbrev main_while0b_v122 : Ref sig .tc := ⟨.hbm, 147, rfl⟩
abbrev main_while0b_c_28 : Ref sig .tc := ⟨.hbm, 148, rfl⟩
abbrev main_while0b_v123 : Ref sig .tc := ⟨.hbm, 149, rfl⟩
abbrev main_v71 : Ref sig .tc := ⟨.hbm, 150, rfl⟩
abbrev main_cst_17 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_cst_18 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_c_19 : Ref sig .tc := ⟨.hbm, 163, rfl⟩
abbrev main_v82 : Ref sig .tc := ⟨.hbm, 164, rfl⟩
abbrev main_v83 : Ref sig .tc := ⟨.hbm, 165, rfl⟩
abbrev main_c_20 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_c_21 : Ref sig .tc := ⟨.hbm, 170, rfl⟩
abbrev main_v87 : Ref sig .tc := ⟨.hbm, 171, rfl⟩
abbrev main_v88 : Ref sig .tc := ⟨.hbm, 172, rfl⟩
abbrev main_c_22 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_cst_23 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_cst_24 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩

abbrev nD : Nat := 1
abbrev τ : Topo := Topo.v7x

variable {F : FTy → Type} [FloatOps F]

abbrev main_while0_count : Scf.Loop 32 := ⟨0#32, 16384#32, 1#32⟩
-- ==== Proof.Proof.RefKeep.lean ====
/- What each stretch of the reference's operations leaves as it was: the list of the buffers a stretch writes, and that any
   other buffer keeps its contents through it, through the counted loop, and (the arguments) through the whole run. -/
module

public import proofs.«01_k».proof.Proof.Gen.ReferenceIdeal.Run
public import Idealize.ShloMosaic.Lib.Quiescent

@[expose] public section

set_option maxRecDepth 4096

noncomputable section

namespace Cert.Proof.Ref

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]

/-- The buffers that the stretch `hostOps0` writes, in order. -/
abbrev hostOps0_dst : List (Ref sig .tc) := [main_v0, main_v1, main_v2, main_v3, main_v4, main_v5, main_v6]
set_option maxRecDepth 8192 in
/-- Each operation of `hostOps0` writes one of them. -/
theorem hostOps0_into : (hostOps0 : List (HloOp τ sig (Elt F))).Forall fun op => op.writes ⊆ (hostOps0_dst.map (Proc.devRef (τ := τ) .tc)).toFinset :=
  StableHlo.forall_writes_sub_of_map rfl
/-- A buffer that `hostOps0` does not write holds after it what it held before. -/
theorem hostOps0_same (V : Valuation τ sig (Elt F)) (r : Ref sig .tc) (h : r ∉ hostOps0_dst) :
    after (hostOps0 : List (HloOp τ sig (Elt F))) V (Proc.devRef .tc r) = V (Proc.devRef .tc r) :=
  after_of_writes_sub hostOps0 V hostOps0_into h

/-- The buffers that the stretch `hostOps0_1` writes, in order. -/
abbrev hostOps0_1_dst : List (Ref sig .tc) := [main_call0_cst, main_call0_v0, main_call0_v1, main_call0_v2, main_call0_v3, main_call0_v4, main_call0_v5, main_call0_v6, main_call0_v7, main_call0_v8, main_call0_v9, main_call0_v10, main_call0_v11, main_v7]
set_option maxRecDepth 8192 in
/-- Each operation of `hostOps0_1` writes one of them. -/
theorem hostOps0_1_into : (hostOps0_1 : List (HloOp τ sig (Elt F))).Forall fun op => op.writes ⊆ (hostOps0_1_dst.map (Proc.devRef (τ := τ) .tc)).toFinset :=
  StableHlo.forall_writes_sub_of_map rfl
/-- A buffer that `hostOps0_1` does not write holds after it what it held before. -/
theorem hostOps0_1_same (V : Valuation τ sig (Elt F)) (r : Ref sig .tc) (h : r ∉ hostOps0_1_dst) :
    after (hostOps0_1 : List (HloOp τ sig (Elt F))) V (Proc.devRef .tc r) = V (Proc.devRef .tc r) :=
  after_of_writes_sub hostOps0_1 V hostOps0_1_into h

/-- The buffers that the stretch `hostOps0_2` writes, in order. -/
abbrev hostOps0_2_dst : List (Ref sig .tc) := [main_v8, main_v9, main_cst, main_v10, main_v11, main_cst_0, main_v12, main_v13, main_v14, main_v15, main_cst_1, main_v16, main_v17, main_cst_2, main_v18, main_v19, main_v20, main_v21, main_cst_3, main_v22, main_v23, main_cst_4, main_v24, main_v25, main_v26, main_v27, main_cst_5, main_v28, main_v29, main_cst_6, main_v30, main_v31, main_v32, main_v33, main_v34]
set_option maxRecDepth 8192 in
/-- Each operation of `hostOps0_2` writes one of them. -/
theorem hostOps0_2_into : (hostOps0_2 : List (HloOp τ sig (Elt F))).Forall fun op => op.writes ⊆ (hostOps0_2_dst.map (Proc.devRef (τ := τ) .tc)).toFinset :=
  StableHlo.forall_writes_sub_of_map rfl
/-- A buffer that `hostOps0_2` does not write holds after it what it held before. -/
theorem hostOps0_2_same (V : Valuation τ sig (Elt F)) (r : Ref sig .tc) (h : r ∉ hostOps0_2_dst) :
    after (hostOps0_2 : List (HloOp τ sig (Elt F))) V (Proc.devRef .tc r) = V (Proc.devRef .tc r) :=
  after_of_writes_sub hostOps0_2 V hostOps0_2_into h

/-- The buffers that the stretch `hostOps0_3` writes, in order. -/
abbrev hostOps0_3_dst : List (Ref sig .tc) := [main_call1_v0, main_call1_cst, main_call1_v1, main_v35]
set_option maxRecDepth 8192 in
/-- Each operation of `hostOps0_3` writes one of them. -/
theorem hostOps0_3_into : (hostOps0_3 : List (HloOp τ sig (Elt F))).Forall fun op => op.writes ⊆ (hostOps0_3_dst.map (Proc.devRef (τ := τ) .tc)).toFinset :=
  StableHlo.forall_writes_sub_of_map rfl
/-- A buffer that `hostOps0_3` does not write holds after it what it held before. -/
theorem hostOps0_3_same (V : Valuation τ sig (Elt F)) (r : Ref sig .tc) (h : r ∉ hostOps0_3_dst) :
    after (hostOps0_3 : List (HloOp τ sig (Elt F))) V (Proc.devRef .tc r) = V (Proc.devRef .tc r) :=
  after_of_writes_sub hostOps0_3 V hostOps0_3_into h

/-- The buffers that the stretch `hostOps0_4` writes, in order. -/
abbrev hostOps0_4_dst : List (Ref sig .tc) := [main_call2_v0, main_call2_cst, main_call2_v1, main_v36]
set_option maxRecDepth 8192 in
/-- Each operation of `hostOps0_4` writes one of them. -/
theorem hostOps0_4_into : (hostOps0_4 : List (HloOp τ sig (Elt F))).Forall fun op => op.writes ⊆ (hostOps0_4_dst.map (Proc.devRef (τ := τ) .tc)).toFinset :=
  StableHlo.forall_writes_sub_of_map rfl
/-- A buffer that `hostOps0_4` does not write holds after it what it held before. -/
theorem hostOps0_4_same (V : Valuation τ sig (Elt F)) (r : Ref sig .tc) (h : r ∉ hostOps0_4_dst) :
    after (hostOps0_4 : List (HloOp τ sig (Elt F))) V (Proc.devRef .tc r) = V (Proc.devRef .tc r) :=
  after_of_writes_sub hostOps0_4 V hostOps0_4_into h

/-- The buffers that the stretch `hostOps0_5` writes, in order. -/
abbrev hostOps0_5_dst : List (Ref sig .tc) := [main_v37, main_v38, main_v39, main_v40, main_cst_7, main_v41, main_cst_8, main_v42, main_v43, main_v44, main_v45, main_v46, main_v47, main_cst_9, main_v48, main_cst_10, main_v49, main_v50, main_v51, main_v52, main_v53, main_v54, main_cst_11, main_v55, main_v56, main_v57, main_v58, main_v59, main_cst_12, main_v60, main_cst_13, main_v61, main_v62, main_cst_14, main_v63, main_v64]
set_option maxRecDepth 8192 in
/-- Each operation of `hostOps0_5` writes one of them. -/
theorem hostOps0_5_into : (hostOps0_5 : List (HloOp τ sig (Elt F))).Forall fun op => op.writes ⊆ (hostOps0_5_dst.map (Proc.devRef (τ := τ) .tc)).toFinset :=
  StableHlo.forall_writes_sub_of_map rfl
/-- A buffer that `hostOps0_5` does not write holds after it what it held before. -/
theorem hostOps0_5_same (V : Valuation τ sig (Elt F)) (r : Ref sig .tc) (h : r ∉ hostOps0_5_dst) :
    after (hostOps0_5 : List (HloOp τ sig (Elt F))) V (Proc.devRef .tc r) = V (Proc.devRef .tc r) :=
  after_of_writes_sub hostOps0_5 V hostOps0_5_into h

/-- The buffers that the stretch `hostOps0_6` writes, in order. -/
abbrev hostOps0_6_dst : List (Ref sig .tc) := [main_call3_v0, main_call3_v1_0, main_v65]
set_option maxRecDepth 8192 in
/-- Each operation of `hostOps0_6` writes one of them. -/
theorem hostOps0_6_into : (hostOps0_6 : List (HloOp τ sig (Elt F))).Forall fun op => op.writes ⊆ (hostOps0_6_dst.map (Proc.devRef (τ := τ) .tc)).toFinset :=
  StableHlo.forall_writes_sub_of_map rfl
/-- A buffer that `hostOps0_6` does not write holds after it what it held before. -/
theorem hostOps0_6_same (V : Valuation τ sig (Elt F)) (r : Ref sig .tc) (h : r ∉ hostOps0_6_dst) :
    after (hostOps0_6 : List (HloOp τ sig (Elt F))) V (Proc.devRef .tc r) = V (Proc.devRef .tc r) :=
  after_of_writes_sub hostOps0_6 V hostOps0_6_into h

/-- The buffers that the stretch `hostOps0_7` writes, in order. -/
abbrev hostOps0_7_dst : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v66]
set_option maxRecDepth 8192 in
/-- Each operation of `hostOps0_7` writes one of them. -/
theorem hostOps0_7_into : (hostOps0_7 : List (HloOp τ sig (Elt F))).Forall fun op => op.writes ⊆ (hostOps0_7_dst.map (Proc.devRef (τ := τ) .tc)).toFinset :=
  StableHlo.forall_writes_sub_of_map rfl
/-- A buffer that `hostOps0_7` does not write holds after it what it held before. -/
theorem hostOps0_7_same (V : Valuation τ sig (Elt F)) (r : Ref sig .tc) (h : r ∉ hostOps0_7_dst) :
    after (hostOps0_7 : List (HloOp τ sig (Elt F))) V (Proc.devRef .tc r) = V (Proc.devRef .tc r) :=
  after_of_writes_sub hostOps0_7 V hostOps0_7_into h

/-- The buffers that the stretch `hostOps0_8` writes, in order. -/
abbrev hostOps0_8_dst : List (Ref sig .tc) := [main_cst_15, main_v67, main_v68, main_cst_16, main_v69, main_c, main_v70_0, main_v70_1, main_v70_2, main_v70_3]
set_option maxRecDepth 8192 in
/-- Each operation of `hostOps0_8` writes one of them. -/
theorem hostOps0_8_into : (hostOps0_8 : List (HloOp τ sig (Elt F))).Forall fun op => op.writes ⊆ (hostOps0_8_dst.map (Proc.devRef (τ := τ) .tc)).toFinset :=
  StableHlo.forall_writes_sub_of_map rfl
/-- A buffer that `hostOps0_8` does not write holds after it what it held before. -/
theorem hostOps0_8_same (V : Valuation τ sig (Elt F)) (r : Ref sig .tc) (h : r ∉ hostOps0_8_dst) :
    after (hostOps0_8 : List (HloOp τ sig (Elt F))) V (Proc.devRef .tc r) = V (Proc.devRef .tc r) :=
  after_of_writes_sub hostOps0_8 V hostOps0_8_into h

/-- The buffers that the stretch `hostOps0_9` writes, in order. -/
abbrev hostOps0_9_dst : List (Ref sig .tc) := [main_v71, main_cst_17, main_v72, main_v73, main_v74, main_v75, main_v76, main_v77, main_v78, main_cst_18, main_v79, main_v80, main_v81, main_c_19, main_v82, main_v83, main_c_20, main_v84, main_v85, main_v86, main_c_21, main_v87, main_v88, main_c_22, main_v89, main_v90, main_v91, main_v92, main_v93, main_v94, main_v95, main_v96, main_v97, main_v98, main_cst_23, main_v99, main_v100, main_v101, main_v102, main_v103, main_v104, main_v105, main_v106, main_v107, main_v108, main_v109, main_v110, main_cst_24, main_v111, main_v112, main_v113, main_v114, main_v115, main_v116, main_v117, main_v118]
set_option maxRecDepth 8192 in
/-- Each operation of `hostOps0_9` writes one of them. -/
theorem hostOps0_9_into : (hostOps0_9 : List (HloOp τ sig (Elt F))).Forall fun op => op.writes ⊆ (hostOps0_9_dst.map (Proc.devRef (τ := τ) .tc)).toFinset :=
  StableHlo.forall_writes_sub_of_map rfl
/-- A buffer that `hostOps0_9` does not write holds after it what it held before. -/
theorem hostOps0_9_same (V : Valuation τ sig (Elt F)) (r : Ref sig .tc) (h : r ∉ hostOps0_9_dst) :
    after (hostOps0_9 : List (HloOp τ sig (Elt F))) V (Proc.devRef .tc r) = V (Proc.devRef .tc r) :=
  after_of_writes_sub hostOps0_9 V hostOps0_9_into h

/-- The buffers that the stretch `while0Ops0` writes, in order. -/
abbrev while0Ops0_dst : List (Ref sig .tc) := [main_while0b_call5_c, main_while0b_call5_v0, main_while0b_v119]
set_option maxRecDepth 8192 in
/-- Each operation of `while0Ops0` writes one of them. -/
theorem while0Ops0_into : (while0Ops0 : List (HloOp τ sig (Elt F))).Forall fun op => op.writes ⊆ (while0Ops0_dst.map (Proc.devRef (τ := τ) .tc)).toFinset :=
  StableHlo.forall_writes_sub_of_map rfl
/-- A buffer that `while0Ops0` does not write holds after it what it held before. -/
theorem while0Ops0_same (V : Valuation τ sig (Elt F)) (r : Ref sig .tc) (h : r ∉ while0Ops0_dst) :
    after (while0Ops0 : List (HloOp τ sig (Elt F))) V (Proc.devRef .tc r) = V (Proc.devRef .tc r) :=
  after_of_writes_sub while0Ops0 V while0Ops0_into h

/-- The buffers that the stretch `while0Ops0_1` writes, in order. -/
abbrev while0Ops0_1_dst : List (Ref sig .tc) := [main_while0b_v120, main_while0b_v121]
set_option maxRecDepth 8192 in
/-- Each operation of `while0Ops0_1` writes one of them. -/
theorem while0Ops0_1_into : (while0Ops0_1 : List (HloOp τ sig (Elt F))).Forall fun op => op.writes ⊆ (while0Ops0_1_dst.map (Proc.devRef (τ := τ) .tc)).toFinset :=
  StableHlo.forall_writes_sub_of_map rfl
/-- A buffer that `while0Ops0_1` does not write holds after it what it held before. -/
theorem while0Ops0_1_same (V : Valuation τ sig (Elt F)) (r : Ref sig .tc) (h : r ∉ while0Ops0_1_dst) :
    after (while0Ops0_1 : List (HloOp τ sig (Elt F))) V (Proc.devRef .tc r) = V (Proc.devRef .tc r) :=
  after_of_writes_sub while0Ops0_1 V while0Ops0_1_into h

/-- The buffers that the stretch `while0Ops0_2` writes, in order. -/
abbrev while0Ops0_2_dst : List (Ref sig .tc) := [main_while0b_call6_v0, main_while0b_call6_c, main_while0b_v122]
set_option maxRecDepth 8192 in
/-- Each operation of `while0Ops0_2` writes one of them. -/
theorem while0Ops0_2_into : (while0Ops0_2 : List (HloOp τ sig (Elt F))).Forall fun op => op.writes ⊆ (while0Ops0_2_dst.map (Proc.devRef (τ := τ) .tc)).toFinset :=
  StableHlo.forall_writes_sub_of_map rfl
/-- A buffer that `while0Ops0_2` does not write holds after it what it held before. -/
theorem while0Ops0_2_same (V : Valuation τ sig (Elt F)) (r : Ref sig .tc) (h : r ∉ while0Ops0_2_dst) :
    after (while0Ops0_2 : List (HloOp τ sig (Elt F))) V (Proc.devRef .tc r) = V (Proc.devRef .tc r) :=
  after_of_writes_sub while0Ops0_2 V while0Ops0_2_into h

/-- The buffers that the stretch `while0Ops0_3` writes, in order. -/
abbrev while0Ops0_3_dst : List (Ref sig .tc) := [main_while0b_c_28, main_while0b_v123, main_v70_1, main_v70_2, main_v70_3]
set_option maxRecDepth 8192 in
/-- Each operation of `while0Ops0_3` writes one of them. -/
theorem while0Ops0_3_into : (while0Ops0_3 : List (HloOp τ sig (Elt F))).Forall fun op => op.writes ⊆ (while0Ops0_3_dst.map (Proc.devRef (τ := τ) .tc)).toFinset :=
  StableHlo.forall_writes_sub_of_map rfl
/-- A buffer that `while0Ops0_3` does not write holds after it what it held before. -/
theorem while0Ops0_3_same (V : Valuation τ sig (Elt F)) (r : Ref sig .tc) (h : r ∉ while0Ops0_3_dst) :
    after (while0Ops0_3 : List (HloOp τ sig (Elt F))) V (Proc.devRef .tc r) = V (Proc.devRef .tc r) :=
  after_of_writes_sub while0Ops0_3 V while0Ops0_3_into h

/-- The buffers that the stretch `condOps` writes, in order. -/
abbrev condOps_dst : List (Ref sig .tc) := [main_while0c_c_28, main_while0c_v119]
set_option maxRecDepth 8192 in
/-- Each operation of `condOps` writes one of them. -/
theorem condOps_into : (condOps : List (HloOp τ sig (Elt F))).Forall fun op => op.writes ⊆ (condOps_dst.map (Proc.devRef (τ := τ) .tc)).toFinset :=
  StableHlo.forall_writes_sub_of_map rfl
/-- A buffer that `condOps` does not write holds after it what it held before. -/
theorem condOps_same (V : Valuation τ sig (Elt F)) (r : Ref sig .tc) (h : r ∉ condOps_dst) :
    after (condOps : List (HloOp τ sig (Elt F))) V (Proc.devRef .tc r) = V (Proc.devRef .tc r) :=
  after_of_writes_sub condOps V condOps_into h

/-- Every buffer that a trip of the loop writes. -/
abbrev loop_dst : List (Ref sig .tc) := condOps_dst ++ (while0Ops0_dst ++ (while0Ops0_1_dst ++ (while0Ops0_2_dst ++ while0Ops0_3_dst)))

/-- A buffer that no trip writes holds before every trip what it held at the loop's entry. -/
theorem trips_same (m : (ℓ : Loc nD τ sig) → Buf (Elt F) ℓ) (c : Dev nD) (r : Ref sig .tc) (h : r ∉ loop_dst) (k : ℕ) :
    atK m k c (Proc.devRef .tc r) = entryContents preI m c (Proc.devRef .tc r) := by
  simp only [loop_dst, List.mem_append, not_or] at h
  obtain ⟨h0, h1, h2, h3, h4⟩ := h
  induction k with
  | zero => rfl
  | succ k ih =>
    rw [show atK m (k + 1) c = afterL bodyI (after condOps (atK m k c)) from rfl]
    simp only [bodyI, afterL_cons, afterL_nil]
    rw [while0Ops0_3_same _ r h4, while0Ops0_2_same _ r h3, while0Ops0_1_same _ r h2, while0Ops0_same _ r h1, condOps_same _ r h0, ih]
    rfl

/-- A buffer that no stretch before the loop writes holds at the loop's entry what it held at launch. -/
theorem entry_same (m : (ℓ : Loc nD τ sig) → Buf (Elt F) ℓ) (c : Dev nD) (r : Ref sig .tc)
    (h : r ∉ hostOps0_dst ++ (hostOps0_1_dst ++ (hostOps0_2_dst ++ (hostOps0_3_dst ++ (hostOps0_4_dst ++ (hostOps0_5_dst ++ (hostOps0_6_dst ++ (hostOps0_7_dst ++ hostOps0_8_dst)))))))) :
    entryContents preI m c (Proc.devRef .tc r) = m ((c.tc : Thread nD τ).loc r) := by
  simp only [List.mem_append, not_or] at h
  obtain ⟨h0, h1, h2, h3, h4, h5, h6, h7, h8⟩ := h
  simp only [entryContents, preI, afterL_cons, afterL_nil]
  rw [hostOps0_8_same _ r h8, hostOps0_7_same _ r h7, hostOps0_6_same _ r h6, hostOps0_5_same _ r h5, hostOps0_4_same _ r h4,
    hostOps0_3_same _ r h3, hostOps0_2_same _ r h2, hostOps0_1_same _ r h1, hostOps0_same _ r h0]

/-- The contents at the end: the stretch after the loop, from the contents the last trip leaves and the condition's last run. -/
theorem final_eq (m : (ℓ : Loc nD τ sig) → Buf (Elt F) ℓ) (c : Dev nD) :
    finalContents condOps preI bodyI postI 16384 m c = after hostOps0_9 (after condOps (atK m 16384 c)) := rfl

/-- An argument array holds at the end what it held at launch. -/
theorem final_arg (m : (ℓ : Loc nD τ sig) → Buf (Elt F) ℓ) (c : Dev nD) (r : Ref sig .tc) (hr : r ∈ [main_arg0, main_arg1, main_arg2]) :
    finalContents condOps preI bodyI postI 16384 m c (Proc.devRef .tc r) = m ((c.tc : Thread nD τ).loc r) := by
  rw [final_eq]
  fin_cases hr
  all_goals
    rw [hostOps0_9_same _ _ (by decide), condOps_same _ _ (by decide), trips_same m c _ (by decide), entry_same m c _ (by decide)]

/-- The reference runs, its three arguments end unchanged, and (it declares no semaphore) every counter is zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0 rfl).trans (final_arg m c _ (by decide)),
      (h c main_arg1 rfl).trans (final_arg m c _ (by decide)), (h c main_arg2 rfl).trans (final_arg m c _ (by decide))⟩,
      sem_eq_zero_of_no_sems (by decide) r.2⟩) (run_fold m ρ)

end Cert.Proof.Ref

end
-- ==== Proof.Proof.Spec.lean ====
/- The value that both programs compute, written over the real numbers for one batch row: a controls row `r` and a memory
   `m` of 16384 cells of 64 words. With it, the facts that carry a real number through the operations on extended reals, and
   the kernel's own arrangement of the same value. -/
module

public import Idealize.ShloMosaic.Lib.Pointwise

@[expose] public section

noncomputable section

namespace Cert.Proof.Spec

open Idealize.ShloMosaic

/-! ## The value over the reals -/

/-- The small constant of the program, the float32 word of 1e-8 read exactly. -/
def eps : ℝ := 11258999 / 1125899906842624

/-- The logistic function. -/
def sg (x : ℝ) : ℝ := (1 + Real.exp (-x))⁻¹

/-- The softplus function in the arrangement that both programs use. -/
def sp (x : ℝ) : ℝ := max x 0 + Real.log (1 + Real.exp (-|x|))

/-- Word `w` of the key, the first 64 entries of a controls row. -/
def key (r : Fin 199 → ℝ) (w : Fin 64) : ℝ := r ⟨w.val, by omega⟩

/-- Word `w` of the erase vector, the logistic of the second 64 entries. -/
def era (r : Fin 199 → ℝ) (w : Fin 64) : ℝ := sg (r ⟨64 + w.val, by omega⟩)

/-- Word `w` of the add vector, the third 64 entries. -/
def add (r : Fin 199 → ℝ) (w : Fin 64) : ℝ := r ⟨128 + w.val, by omega⟩

/-- The strength that multiplies the scores. -/
def beta (r : Fin 199 → ℝ) : ℝ := sp (r ⟨196, by omega⟩)

/-- The allocation gate. -/
def agate (r : Fin 199 → ℝ) : ℝ := sg (r ⟨197, by omega⟩)

/-- The write gate. -/
def wgate (r : Fin 199 → ℝ) : ℝ := sg (r ⟨198, by omega⟩)

/-- The length of the key. -/
def knorm (r : Fin 199 → ℝ) : ℝ := Real.sqrt (∑ w, key r w * key r w)

/-- The length of memory cell `c`. -/
def mnorm (m : Fin 16384 → Fin 64 → ℝ) (c : Fin 16384) : ℝ := Real.sqrt (∑ w, m c w * m c w)

/-- The product of memory cell `c` with the key. -/
def dot (r : Fin 199 → ℝ) (m : Fin 16384 → Fin 64 → ℝ) (c : Fin 16384) : ℝ := ∑ w, m c w * key r w

/-- The score of cell `c`: its cosine with the key, scaled. -/
def score (r : Fin 199 → ℝ) (m : Fin 16384 → Fin 64 → ℝ) (c : Fin 16384) : ℝ :=
  dot r m c / (knorm r * mnorm m c + eps) * beta r

/-- The greatest score. -/
def top (r : Fin 199 → ℝ) (m : Fin 16384 → Fin 64 → ℝ) : ℝ := Finset.univ.sup' Finset.univ_nonempty (score r m)

/-- The exponential of a score less the greatest. -/
def ex (r : Fin 199 → ℝ) (m : Fin 16384 → Fin 64 → ℝ) (c : Fin 16384) : ℝ := Real.exp (score r m c - top r m)

/-- The sum of the exponentials. -/
def tot (r : Fin 199 → ℝ) (m : Fin 16384 → Fin 64 → ℝ) : ℝ := ∑ c, ex r m c

/-- The content weight of cell `c`: the softmax of the scores. -/
def content (r : Fin 199 → ℝ) (m : Fin 16384 → Fin 64 → ℝ) (c : Fin 16384) : ℝ := ex r m c / tot r m

/-- The allocation weight of the cell with number `n`: every usage is `eps`, so the products of usages are powers of it. -/
def alloc (n : ℕ) : ℝ := (1 - eps) * eps ^ n

/-- The write weight of cell `c`. -/
def weight (r : Fin 199 → ℝ) (m : Fin 16384 → Fin 64 → ℝ) (c : Fin 16384) : ℝ :=
  wgate r * (agate r * alloc c.val + (1 - agate r) * content r m c)

/-- The new memory at cell `c`, word `w`. -/
def out (r : Fin 199 → ℝ) (m : Fin 16384 → Fin 64 → ℝ) (c : Fin 16384) (w : Fin 64) : ℝ :=
  m c w * (1 - weight r m c * era r w) + weight r m c * add r w

/-! ## Signs -/

/-- The small constant is positive. -/
theorem eps_pos : 0 < eps := by unfold eps; norm_num

/-- The divisor of a score is positive. -/
theorem den_pos (r : Fin 199 → ℝ) (m : Fin 16384 → Fin 64 → ℝ) (c : Fin 16384) : 0 < knorm r * mnorm m c + eps := by
  have h1 : 0 ≤ knorm r := Real.sqrt_nonneg _
  have h2 : 0 ≤ mnorm m c := Real.sqrt_nonneg _
  have h3 := eps_pos
  positivity

/-- The sum of the exponentials is positive. -/
theorem tot_pos (r : Fin 199 → ℝ) (m : Fin 16384 → Fin 64 → ℝ) : 0 < tot r m :=
  Finset.sum_pos (fun _ _ => Real.exp_pos _) Finset.univ_nonempty

/-! ## Real numbers through the operations on extended reals -/

/-- A sum of reals, as an extended real. -/
theorem sum_real {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- A quotient of reals by a nonzero one, as an extended real. -/
theorem div_real (x y : ℝ) (h : y ≠ 0) : Ideal.div (x : EReal) (y : EReal) = ((x / y : ℝ) : EReal) := by
  rw [Ideal.div_coe h, ← EReal.coe_mul, mul_one_div]

/-- The square root of a real that is not negative. -/
theorem sqrt_real (x : ℝ) (h : 0 ≤ x) : Ideal.sqrt (x : EReal) = ((Real.sqrt x : ℝ) : EReal) := by
  rw [Ideal.sqrt_coe, if_neg (not_lt.2 h)]

/-- The greater of two reals. -/
theorem max_real (x y : ℝ) : max (x : EReal) (y : EReal) = ((max x y : ℝ) : EReal) :=
  (EReal.coe_strictMono.monotone.map_max (a := x) (b := y)).symm

/-- The absolute value of a real. -/
theorem abs_real {φ : FTy} (x : ℝ) : FloatOps.absf (F := Ideal) (φ := φ) (x : EReal) = ((|x| : ℝ) : EReal) := by
  show max (x : EReal) (-(x : EReal)) = _
  rw [← EReal.coe_neg, max_real]
  rfl

/-- The greatest of finitely many reals, a fold from minus infinity. -/
theorem fold_real {ι : Type} [Fintype ι] [Nonempty ι] (f : ι → ℝ) :
    Finset.fold max (⊥ : EReal) (fun x => ((f x : ℝ) : EReal)) Finset.univ
      = ((Finset.univ.sup' Finset.univ_nonempty f : ℝ) : EReal) := by
  show Finset.univ.sup (fun x => ((f x : ℝ) : EReal)) = _
  apply le_antisymm
  · exact Finset.sup_le fun x hx => EReal.coe_le_coe_iff.2 (Finset.le_sup' f hx)
  · obtain ⟨x, hx, h⟩ := Finset.exists_mem_eq_sup' Finset.univ_nonempty f
    rw [h]
    exact Finset.le_sup (f := fun x => ((f x : ℝ) : EReal)) hx

/-- The word of the small constant. -/
theorem eps_word : Ideal.ofBits .f32 841731191#32 = ((eps : ℝ) : EReal) := by
  unfold eps
  simp [Ideal.ofBits, Ideal.ieee, -EReal.coe_mul]
  norm_num

/-- The word of minus infinity. -/
theorem bot_word : Ideal.ofBits .f32 4286578688#32 = (⊥ : EReal) := by
  simp [Ideal.ofBits, Ideal.ieee]

/-- The logistic function as the reference writes it. -/
theorem sg_ref (x : ℝ) : Ideal.div 1 (1 + Ideal.exp (-(x : EReal))) = ((sg x : ℝ) : EReal) := by
  have h : (0 : ℝ) < 1 + Real.exp (-x) := by positivity
  rw [← EReal.coe_neg, Ideal.exp_coe, ← EReal.coe_one, ← EReal.coe_add, div_real _ _ h.ne', one_div]
  rfl

/-- The logistic function as the kernel writes it. -/
theorem sg_ker (x : ℝ) : Ideal.logistic (x : EReal) = ((sg x : ℝ) : EReal) := Ideal.logistic_coe x

/-- The logarithm of one more than a positive real. -/
theorem log1p_real (x : ℝ) (h : 0 < x) : Ideal.log1p (x : EReal) = ((Real.log (1 + x) : ℝ) : EReal) := by
  have h' : ¬ (1 + x ≤ 0) := by linarith
  unfold Ideal.log1p
  rw [← EReal.coe_one, ← EReal.coe_add, Ideal.log_coe, if_neg h']

/-- The softplus function as the reference writes it. -/
theorem sp_ref {φ : FTy} (x : ℝ) :
    max (x : EReal) 0 + Ideal.log1p (Ideal.exp (-(FloatOps.absf (F := Ideal) (φ := φ) (x : EReal) : EReal))) = ((sp x : ℝ) : EReal) := by
  rw [abs_real, ← EReal.coe_neg, Ideal.exp_coe, log1p_real _ (Real.exp_pos _), ← EReal.coe_zero, max_real, ← EReal.coe_add]
  rfl

/-- The softplus function as the kernel writes it. -/
theorem sp_ker {φ : FTy} (x : ℝ) :
    max (x : EReal) 0 + Ideal.log1p (Ideal.exp (0 - (FloatOps.absf (F := Ideal) (φ := φ) (x : EReal) : EReal))) = ((sp x : ℝ) : EReal) := by
  rw [zero_sub]
  exact sp_ref x

/-! ## The kernel's arrangement -/

/-- A power of the small constant as the kernel writes it, the exponential of a multiple of its logarithm. -/
theorem exp_log_eps (n : ℕ) : Real.exp ((n : ℝ) * Real.log eps) = eps ^ n := by
  rw [Real.exp_nat_mul, Real.exp_log eps_pos]

/-- The kernel's score, with the strength multiplied before the division. -/
theorem score_ker (r : Fin 199 → ℝ) (m : Fin 16384 → Fin 64 → ℝ) (c : Fin 16384) :
    (∑ w, key r w * m c w) * beta r / (knorm r * mnorm m c + eps) = score r m c := by
  unfold score dot
  rw [Finset.sum_congr rfl fun w _ => mul_comm (key r w) (m c w)]
  ring

/-- The kernel's arrangement of the new memory. -/
theorem out_ker (r : Fin 199 → ℝ) (m : Fin 16384 → Fin 64 → ℝ) (c : Fin 16384) (w : Fin 64) :
    m c w - (ex r m c * (wgate r * (1 - agate r) / tot r m)
        + wgate r * agate r * ((1 - eps) * Real.exp ((c.val : ℝ) * Real.log eps))) * (m c w * era r w - add r w)
      = out r m c w := by
  rw [exp_log_eps]
  unfold out weight content alloc
  ring

end Cert.Proof.Spec
-- ==== Proof.Proof.RefRead.lean ====
/- What each stretch of the reference before its loop leaves in the buffers that later ones read, at an index and over the real
   numbers: the parts of a controls row, the gates, the two lengths, the softmax of the scores, the constant usages, their
   sort, and the usages taken in sorted order. -/
module

public import proofs.«01_k».proof.Proof.Proof.RefKeep
public import proofs.«01_k».proof.Proof.Proof.Spec
public import Idealize.ShloMosaic.Lib.StableHlo.ReadAt
public import Idealize.ShloMosaic.Lib.Tactic.WordOmega
public import Idealize.ShloMosaic.Lib.SortFacts

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen Cert.ReferenceIdeal.Value
open Cert.Proof

variable (V : Valuation τ sig (Elt Ideal))

/-! ## The parts of a controls row -/

/-- The key. -/
theorem v0_at (b : Fin 64) (w : Fin 64) :
    after hostOps0 V (Proc.devRef .tc main_v0) (ix2 b w) = V (Proc.devRef .tc main_arg1) (ix2 b ⟨w.val, by omega⟩) := by
  after_reads_at

/-- The raw erase vector. -/
theorem v1_at (b : Fin 64) (w : Fin 64) :
    after hostOps0 V (Proc.devRef .tc main_v1) (ix2 b w) = V (Proc.devRef .tc main_arg1) (ix2 b ⟨64 + w.val, by omega⟩) := by
  after_reads_at

/-- The add vector. -/
theorem v2_at (b : Fin 64) (w : Fin 64) :
    after hostOps0 V (Proc.devRef .tc main_v2) (ix2 b w) = V (Proc.devRef .tc main_arg1) (ix2 b ⟨128 + w.val, by omega⟩) := by
  after_reads_at

/-- The raw strength. -/
theorem v4_at (b : Fin 64) :
    after hostOps0 V (Proc.devRef .tc main_v4) (ix2 b 0) = V (Proc.devRef .tc main_arg1) (ix2 b ⟨196, by omega⟩) := by
  after_reads_at

/-- The raw allocation gate. -/
theorem v5_at (b : Fin 64) :
    after hostOps0 V (Proc.devRef .tc main_v5) (ix2 b 0) = V (Proc.devRef .tc main_arg1) (ix2 b ⟨197, by omega⟩) := by
  after_reads_at

/-- The raw write gate. -/
theorem v6_at (b : Fin 64) :
    after hostOps0 V (Proc.devRef .tc main_v6) (ix2 b 0) = V (Proc.devRef .tc main_arg1) (ix2 b ⟨198, by omega⟩) := by
  after_reads_at

/-! ## The gates and the strength -/

/-- The strength is the softplus of the raw one. -/
theorem v7_at (b : Fin 64) (x : ℝ) (hx : V (Proc.devRef .tc main_v4) (ix2 b 0) = (x : EReal)) :
    after hostOps0_1 V (Proc.devRef .tc main_v7) (ix2 b 0) = ((Spec.sp x : ℝ) : EReal) := by
  after_reads_at
  rw [if_neg (fun h => h rfl), hx]
  exact Spec.sp_ref x

/-- The erase vector is the logistic of the raw one. -/
theorem v13_at (b : Fin 64) (w : Fin 64) (x : ℝ) (hx : V (Proc.devRef .tc main_v1) (ix2 b w) = (x : EReal)) :
    after hostOps0_2 V (Proc.devRef .tc main_v13) (ix2 b w) = ((Spec.sg x : ℝ) : EReal) := by
  after_reads_at
  rw [hx]
  exact Spec.sg_ref x

/-- The allocation gate is the logistic of the raw one. -/
theorem v25_at (b : Fin 64) (x : ℝ) (hx : V (Proc.devRef .tc main_v5) (ix2 b 0) = (x : EReal)) :
    after hostOps0_2 V (Proc.devRef .tc main_v25) (ix2 b 0) = ((Spec.sg x : ℝ) : EReal) := by
  after_reads_at
  rw [hx]
  exact Spec.sg_ref x

/-- The write gate is the logistic of the raw one. -/
theorem v31_at (b : Fin 64) (x : ℝ) (hx : V (Proc.devRef .tc main_v6) (ix2 b 0) = (x : EReal)) :
    after hostOps0_2 V (Proc.devRef .tc main_v31) (ix2 b 0) = ((Spec.sg x : ℝ) : EReal) := by
  after_reads_at
  rw [hx]
  exact Spec.sg_ref x

/-- The key with two axes of length one. -/
theorem v34_at (b : Fin 64) (w : Fin 64) :
    after hostOps0_2 V (Proc.devRef .tc main_v34) (ix4 b 0 0 w) = V (Proc.devRef .tc main_v0) (ix2 b w) := by
  after_reads_at

/-- The memory with an axis of length one. -/
theorem v33_at (b : Fin 64) (c : Fin 16384) (w : Fin 64) :
    after hostOps0_2 V (Proc.devRef .tc main_v33) (ix4 b 0 c w) = V (Proc.devRef .tc main_arg0) (ix3 b c w) := by
  after_reads_at

/-! ## The scores and their softmax -/

/-- The length of the key. -/
theorem v35_at (b : Fin 64) (k : Fin 64 → ℝ) (hk : ∀ w, V (Proc.devRef .tc main_v34) (ix4 b 0 0 w) = (k w : EReal)) :
    after hostOps0_3 V (Proc.devRef .tc main_v35) (ix3 b 0 0) = ((Real.sqrt (∑ w, k w * k w) : ℝ) : EReal) := by
  after_reads_at
  simp only [hk, ← EReal.coe_mul]
  rw [Spec.sum_real, Spec.sqrt_real _ (Finset.sum_nonneg fun w _ => mul_self_nonneg _)]

/-- The length of a memory cell. -/
theorem v36_at (b : Fin 64) (c : Fin 16384) (k : Fin 64 → ℝ) (hk : ∀ w, V (Proc.devRef .tc main_v33) (ix4 b 0 c w) = (k w : EReal)) :
    after hostOps0_4 V (Proc.devRef .tc main_v36) (ix3 b 0 c) = ((Real.sqrt (∑ w, k w * k w) : ℝ) : EReal) := by
  after_reads_at
  simp only [hk, ← EReal.coe_mul]
  rw [Spec.sum_real, Spec.sqrt_real _ (Finset.sum_nonneg fun w _ => mul_self_nonneg _)]

/-- The content weights: the softmax of the scores. -/
theorem v59_at (b : Fin 64) (c : Fin 16384) (r : Fin 199 → ℝ) (m : Fin 16384 → Fin 64 → ℝ)
    (hk : ∀ w, V (Proc.devRef .tc main_v34) (ix4 b 0 0 w) = ((Spec.key r w : ℝ) : EReal))
    (hm : ∀ c w, V (Proc.devRef .tc main_v33) (ix4 b 0 c w) = ((m c w : ℝ) : EReal))
    (hkn : V (Proc.devRef .tc main_v35) (ix3 b 0 0) = ((Spec.knorm r : ℝ) : EReal))
    (hmn : ∀ c, V (Proc.devRef .tc main_v36) (ix3 b 0 c) = ((Spec.mnorm m c : ℝ) : EReal))
    (hb : V (Proc.devRef .tc main_v7) (ix2 b 0) = ((Spec.beta r : ℝ) : EReal)) :
    after hostOps0_5 V (Proc.devRef .tc main_v59) (ix2 b c) = ((Spec.content r m c : ℝ) : EReal) := by
  have hs : ∀ c, Ideal.div (((∑ w, m c w * Spec.key r w : ℝ) : EReal)) ((Spec.knorm r : EReal) * (Spec.mnorm m c : EReal) + (Spec.eps : EReal))
      * (Spec.beta r : EReal) = ((Spec.score r m c : ℝ) : EReal) := fun c => by
    rw [← EReal.coe_mul, ← EReal.coe_add, Spec.div_real _ _ (Spec.den_pos r m c).ne', ← EReal.coe_mul]
    rfl
  have ht : Finset.fold max (⊥ : EReal) (fun c => ((Spec.score r m c : ℝ) : EReal)) Finset.univ = ((Spec.top r m : ℝ) : EReal) := by
    unfold Spec.top
    exact Spec.fold_real (Spec.score r m)
  have he : ∀ c, Ideal.exp (((Spec.score r m c : ℝ) : EReal) - ((Spec.top r m : ℝ) : EReal)) = ((Spec.ex r m c : ℝ) : EReal) := fun c => by
    unfold Spec.ex
    rw [← EReal.coe_sub, Ideal.exp_coe]
  after_reads_at
  simp only [hk, hm, hkn, hmn, hb, ← EReal.coe_mul _ (Spec.key r _), Spec.sum_real, Spec.eps_word, Spec.bot_word, hs, ht,
    max_eq_right (bot_le : (⊥ : EReal) ≤ _), he]
  rw [show ∑ x, Spec.ex r m x = Spec.tot r m from by unfold Spec.tot; rfl, Spec.div_real _ _ (Spec.tot_pos r m).ne']
  unfold Spec.content
  rfl

/-! ## The usages, their sort, and the usages in sorted order -/

/-- Every usage is the small constant. -/
theorem v64_at (b : Fin 64) (c : Fin 16384) :
    after hostOps0_5 V (Proc.devRef .tc main_v64) (ix2 b c) = ((Spec.eps : ℝ) : EReal) := by
  after_reads_at
  exact Spec.eps_word

/-- A sort of a list by an order that puts no element before another leaves the list as it is. -/
theorem stableSort_none {ι : Type} (before : ι → ι → Bool) (h : ∀ a b, before a b = false) (l : List ι) : stableSort before l = l := by
  induction l with
  | nil => rfl
  | cons a l ih =>
    unfold stableSort
    rw [ih]
    cases l with
    | nil => rfl
    | cons b l => unfold insertBefore; rw [h b a]; rfl

/-- Under such an order every place keeps its element. -/
theorem sortedFrom_none {n : ℕ} (before : Fin n → Fin n → Bool) (h : ∀ a b, before a b = false) (k : Fin n) : sortedFrom before k = k := by
  unfold sortedFrom
  rw [List.get_of_eq (show sortPositions n before = List.finRange n from stableSort_none before h _)]
  simp

/-- The sort's order puts no usage before another when both are the same number. -/
theorem cmp_same (x : EReal) (p q : BitVec 32) : comparator_f32_i32_d1 (F := Ideal) (x, p) (x, q) = 0#1 := by
  unfold comparator_f32_i32_d1
  simp [Ideal.cmpfTotal_def, Ideal.cmp, CmpDirection.ordered]

/-- A sort of numbers that are all alike, with any second operand: that operand, as it was. -/
theorem sort_at (x : EReal) (y : S64x16384.Idx → BitVec 32) (j : S64x16384.Idx) :
    (Host.sort2 S64x16384 1 (comparator_f32_i32_d1 (F := Ideal)) (fun _ => x) y).2 j = y j := by
  unfold Host.sort2
  rw [dif_pos (by decide : 1 < S64x16384.rank)]
  simp only [cmp_same]
  rw [sortedFrom_none (fun _ _ => 0#1 == 1#1) (fun _ _ => rfl)]
  exact congrArg y (Function.update_eq_self _ _)

/-- The sorted places: usages that are all alike stay where they are. -/
theorem v65_at (x : EReal) (h : ∀ (b : Fin 64) (c : Fin 16384), V (Proc.devRef .tc main_v64) (ix2 b c) = x) (b : Fin 64) (c : Fin 16384) :
    after hostOps0_6 V (Proc.devRef .tc main_v65) (ix2 b c) = BitVec.ofNat 32 c.val := by
  have hc : V (Proc.devRef .tc main_v64) = fun _ => x := funext fun j => by
    rw [show j = ix2 (j 0) (j 1) from eq_ix2 j]
    exact h _ _
  after_reads_at
  rw [hc]
  refine (sort_at x _ _).trans ?_
  pointwise

/-- The wrap of a place leaves it as it is. -/
theorem wrap_c (c : Fin 16384) : Scalar.select (IntOp.cmpi CmpIPredicate.slt (BitVec.ofNat 32 ↑c) 0#32) (IntOp.addi (BitVec.ofNat 32 ↑c) 16384#32) (BitVec.ofNat 32 ↑c) = BitVec.ofNat 32 c.val := by
  word_omega
/-- A place is inside the axis. -/
theorem bounds_c (c : Fin 16384) : IntOp.andi (IntOp.cmpi CmpIPredicate.sge (BitVec.ofNat 32 ↑c) 0#32) (IntOp.cmpi CmpIPredicate.sle (BitVec.ofNat 32 ↑c) 16383#32) = 1#1 := by
  word_omega

/-- The usages taken in sorted order: usages that are all alike. -/
theorem v66_at (x : EReal) (h : ∀ (b : Fin 64) (c : Fin 16384), V (Proc.devRef .tc main_v64) (ix2 b c) = x)
    (hs : ∀ (b : Fin 64) (c : Fin 16384), V (Proc.devRef .tc main_v65) (ix2 b c) = BitVec.ofNat 32 c.val) (b : Fin 64) (c : Fin 16384) :
    after hostOps0_7 V (Proc.devRef .tc main_v66) (ix2 b c) = x := by
  have hc : V (Proc.devRef .tc main_v64) = fun _ => x := funext fun j => by
    rw [show j = ix2 (j 0) (j 1) from eq_ix2 j]
    exact h _ _
  after_reads_at
  simp only [hs, hc, wrap_c, bounds_c]
  rw [show (Finset.fold IntOp.andi (1#1) (fun _ => (1#1 : BitVec 1)) Finset.univ : BitVec 1) = 1#1 from by decide]
  rfl

/-! ## What the loop starts from -/

/-- The loop's rows: the usages, transposed. -/
theorem v70_0_at (b : Fin 64) (c : Fin 16384) :
    after hostOps0_8 V (Proc.devRef .tc main_v70_0) (ix2 c b) = V (Proc.devRef .tc main_v66) (ix2 b c) := by
  after_reads_simp
  simp only [id]
  clean_types
  pointwise

/-- The running product starts at one. -/
theorem v70_2_at (b : Fin 64) : after hostOps0_8 V (Proc.devRef .tc main_v70_2) (ix1 b) = (1 : EReal) := by
  after_reads_simp
  simp only [id]
  clean_types
  pointwise

end Cert.Proof.Ref
-- ==== Proof.Proof.RefLoop.lean ====
/- The reference's counted loop, over rows that all hold one number `x`: before trip `k` the running product is `x ^ k`, and row
   `j` of the table of products, for every `j` below `k`, holds `x ^ (j + 1)`. -/
module

public import proofs.«01_k».proof.Proof.Proof.RefKeep
public import Idealize.ShloMosaic.Lib.StableHlo.ReadAt
public import Idealize.ShloMosaic.Lib.Pointwise

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen Cert.ReferenceIdeal.Value

/-- The row that a trip reads, of a table whose entries are all `x`. -/
theorem row_at (V : Valuation τ sig (Elt Ideal)) (x : EReal) (h : ∀ (c : Fin 16384) (b : Fin 64), V (Proc.devRef .tc main_v70_0) (ix2 c b) = x) (j : S64.Idx) :
    res_main_while0b_v119 V j = x := by
  have hc : V (Proc.devRef .tc main_v70_0) = fun _ => x := funext fun j => by
    rw [show j = ix2 (j 0) (j 1) from eq_ix2 j]
    exact h _ _
  unfold res_main_while0b_v119
  rw [hc]
  rfl

/-- The running product after a trip. -/
theorem product_at (V : Valuation τ sig (Elt Ideal)) (x p : EReal) (h : ∀ (c : Fin 16384) (b : Fin 64), V (Proc.devRef .tc main_v70_0) (ix2 c b) = x)
    (hp : ∀ b : Fin 64, V (Proc.devRef .tc main_v70_2) (ix1 b) = p) (b : Fin 64) : step_main_v70_2 V (ix1 b) = p * x := by
  have hr : res_main_while0b_v119 V = fun _ => x := funext fun j => row_at V x h j
  unfold step_main_v70_2
  rw [id, hr]
  clean_types
  pointwise
  exact congrArg (fun y : EReal => y * x) (hp b)

/-- The table of products after trip `k`: row `k` is the new running product, any other row is as it was. -/
theorem table_at (V : Valuation τ sig (Elt Ideal)) (x p : EReal) (k : ℕ) (hk : k < 16384) (hc : V (Proc.devRef .tc main_v70_1) = fun _ => BitVec.ofNat 32 k)
    (h : ∀ (c : Fin 16384) (b : Fin 64), V (Proc.devRef .tc main_v70_0) (ix2 c b) = x)
    (hp : ∀ b : Fin 64, V (Proc.devRef .tc main_v70_2) (ix1 b) = p) (j : Fin 16384) (b : Fin 64) :
    step_main_v70_3 V (ix2 j b) = if j.val = k then p * x else V (Proc.devRef .tc main_v70_3) (ix2 j b) := by
  have hr : res_main_while0b_v119 V = fun _ => x := funext fun j => row_at V x h j
  have hi : (BitVec.ofNat 32 k).toInt = k := by
    rw [BitVec.toInt_eq_toNat_of_lt (by rw [BitVec.toNat_ofNat]; omega), BitVec.toNat_ofNat]
    omega
  unfold step_main_v70_3
  rw [id, hr, hc]
  clean_types
  generalize hs : (fun k_1 : Fin 2 => BitVec.toInt (Matrix.vecCons (fun _ => BitVec.ofNat 32 k) ![constantI S_ 32 (0#32)] k_1 (Shape.Idx.first h_S_))) = s
  have hs0 : s 0 = (k : ℤ) := by rw [← hs]; exact hi
  have hs1 : s 1 = 0 := by rw [← hs]; rfl
  pointwise
  simp only [hp]
  simp [Host.clampedStart, hs0, hs1]
  have hj := j.isLt
  exact if_congr (by omega) rfl rfl

/-- The carried buffers before trip `k`. -/
theorem trips_at (m : (ℓ : Loc nD τ sig) → Buf (Elt Ideal) ℓ) (c : Dev nD) (x : ℝ)
    (h0 : ∀ (j : Fin 16384) (b : Fin 64), entryContents preI m c (Proc.devRef .tc main_v70_0) (ix2 j b) = (x : EReal))
    (h2 : ∀ b : Fin 64, entryContents preI m c (Proc.devRef .tc main_v70_2) (ix1 b) = (1 : EReal)) (k : ℕ) (hk : k ≤ 16384) :
    STEP^[k] (entryContents preI m c) (Proc.devRef .tc main_v70_0) = entryContents preI m c (Proc.devRef .tc main_v70_0)
    ∧ (STEP^[k] (entryContents preI m c) (Proc.devRef .tc main_v70_1) = fun _ => BitVec.ofNat 32 k)
    ∧ (∀ b : Fin 64, STEP^[k] (entryContents preI m c) (Proc.devRef .tc main_v70_2) (ix1 b) = ((x ^ k : ℝ) : EReal))
    ∧ ∀ (j : Fin 16384) (b : Fin 64), j.val < k →
      STEP^[k] (entryContents preI m c) (Proc.devRef .tc main_v70_3) (ix2 j b) = ((x ^ (j.val + 1) : ℝ) : EReal) := by
  induction k with
  | zero =>
    refine ⟨rfl, ctr_entry m c, fun b => ?_, fun j b hj => absurd hj (Nat.not_lt_zero _)⟩
    rw [pow_zero]
    exact h2 b
  | succ k ih =>
    obtain ⟨i0, i1, i2, i3⟩ := ih (by omega)
    have e : ((x ^ k : ℝ) : EReal) * (x : EReal) = ((x ^ (k + 1) : ℝ) : EReal) := by rw [← EReal.coe_mul, pow_succ]
    have j0 : ∀ (j : Fin 16384) (b : Fin 64), STEP^[k] (entryContents preI m c) (Proc.devRef .tc main_v70_0) (ix2 j b) = (x : EReal) :=
      fun j b => (congrFun i0 _).trans (h0 j b)
    rw [Function.iterate_succ_apply', STEP_main_v70_0, STEP_main_v70_1, STEP_main_v70_2, STEP_main_v70_3]
    refine ⟨i0, ?_, fun b => ?_, fun j b hj => ?_⟩
    · unfold step_main_v70_1
      rw [i1]
      funext a
      exact BitVec.ofNat_add_ofNat k 1
    · exact (product_at _ _ _ j0 i2 b).trans e
    · rw [table_at _ _ _ k (by omega) i1 j0 i2 j b]
      split
      · rename_i hj'
        rw [e, hj']
      · exact i3 j b (by omega)

/-- The table of products after the last trip. -/
theorem table_end (m : (ℓ : Loc nD τ sig) → Buf (Elt Ideal) ℓ) (c : Dev nD) (x : ℝ)
    (h0 : ∀ (j : Fin 16384) (b : Fin 64), entryContents preI m c (Proc.devRef .tc main_v70_0) (ix2 j b) = (x : EReal))
    (h2 : ∀ b : Fin 64, entryContents preI m c (Proc.devRef .tc main_v70_2) (ix1 b) = (1 : EReal)) (j : Fin 16384) (b : Fin 64) :
    atK m 16384 c (Proc.devRef .tc main_v70_3) (ix2 j b) = ((x ^ (j.val + 1) : ℝ) : EReal) :=
  (congrFun (atK_agree m c 16384 main_v70_3 (by decide)) _).trans ((trips_at m c x h0 h2 16384 le_rfl).2.2.2 j b j.isLt)

end Cert.Proof.Ref
-- ==== Proof.Proof.RefTail.lean ====
/- The reference's stretch after its loop: the sorted scores, their scatter back to the cells, the write weights, and the new
   memory, at an index and over the real numbers. -/
module

public import proofs.«01_k».proof.Proof.Proof.RefKeep
public import proofs.«01_k».proof.Proof.Proof.Spec
public import Idealize.ShloMosaic.Lib.StableHlo.ReadAt
public import Idealize.ShloMosaic.Lib.Tactic.WordOmega
public import Idealize.ShloMosaic.Lib.Routing.OpsSet
public import Idealize.ShloMosaic.Lib.Routing.OpsPair

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen Cert.ReferenceIdeal.Value
open Cert.Proof

variable (V : Valuation τ sig (Elt Ideal))

/-- The sorted score of place `c`, over usages that are all `x` and their products. -/
theorem v78_at (x : ℝ) (hu : ∀ (b : Fin 64) (c : Fin 16384), V (Proc.devRef .tc main_v66) (ix2 b c) = (x : EReal))
    (hp : ∀ (j : Fin 16384) (b : Fin 64), V (Proc.devRef .tc main_v70_3) (ix2 j b) = ((x ^ (j.val + 1) : ℝ) : EReal)) (b : Fin 64) (c : Fin 16384) :
    after hostOps0_9 V (Proc.devRef .tc main_v78) (ix2 b c) = (((1 - x) * x ^ c.val : ℝ) : EReal) := by
  after_reads_at
  simp only [hu, hp]
  split
  · rename_i h
    rw [show c.val = 0 by omega, pow_zero, mul_one, EReal.coe_sub, EReal.coe_one]
  · rename_i h
    rw [show c.val - 1 + 1 = c.val by omega, EReal.coe_mul, EReal.coe_sub, EReal.coe_one]

/-- The first word of a place's target: its batch row. -/
theorem v95_0_at (b : Fin 64) (c : Fin 16384) :
    after hostOps0_9 V (Proc.devRef .tc main_v95) (ix3 b c 0) = BitVec.ofNat 32 b.val := by
  after_reads_at
  word_omega

/-- The second word of a place's target: the sorted place. -/
theorem v95_1_at (hs : ∀ (b : Fin 64) (c : Fin 16384), V (Proc.devRef .tc main_v65) (ix2 b c) = BitVec.ofNat 32 c.val) (b : Fin 64) (c : Fin 16384) :
    after hostOps0_9 V (Proc.devRef .tc main_v95) (ix3 b c 1) = BitVec.ofNat 32 c.val := by
  after_reads_at
  simp only [hs]
  word_omega

/-- A scatter that sends every place to itself: the updates. -/
theorem scatter_self (z upd : S64x16384.Idx → EReal) (idx : S64x16384x2.Idx → BitVec 32)
    (h0 : ∀ (b : Fin 64) (c : Fin 16384), idx (ix3 b c 0) = BitVec.ofNat 32 b.val)
    (h1 : ∀ (b : Fin 64) (c : Fin 16384), idx (ix3 b c 1) = BitVec.ofNat 32 c.val) (b : Fin 64) (c : Fin 16384) :
    Host.scatter scatter_S64x16384_S64x16384x2_S64x16384_n_01_01_2 (fun _ b => b) z idx upd (ix2 b c) = upd (ix2 b c) := by
  have hn : ∀ n : ℕ, n < 16384 → (BitVec.ofNat 32 n).toInt = n := fun n hn => by
    rw [BitVec.toInt_eq_toNat_of_lt (by rw [BitVec.toNat_ofNat]; omega), BitVec.toNat_ofNat]
    omega
  have hl : ∀ (b' : Fin 64) (c' : Fin 16384), scatter_S64x16384_S64x16384x2_S64x16384_n_01_01_2.resultIdx? (ix2 b' c') idx = some (ix2 b c)
      ↔ b'.val = b.val ∧ c'.val = c.val := fun b' c' => by
    have e := Routing.scatter_lands2 scatter_S64x16384_S64x16384x2_S64x16384_n_01_01_2 rfl rfl rfl idx b' c' b c
    simp only [← ix2_eq_valueIdx, ← ix3_eq_valueIdx, h0, h1] at e
    rw [hn _ (by omega), hn _ (by omega)] at e
    rw [e]
    omega
  refine Routing.scatter_set_hit _ z idx upd (ix2 b c) _ (fun k hk => ?_) (ix2 b c) ((hl b c).2 ⟨rfl, rfl⟩)
  rw [show k = ix2 (k 0) (k 1) from eq_ix2 k] at hk ⊢
  obtain ⟨e0, e1⟩ := (hl _ _).1 hk
  rw [Fin.ext e0, Fin.ext e1]
  rfl

/-- A word of the new memory, from the memory's word, the two gates, the two weights of its cell, and the erase and add words. -/
def newWord (x wg ag al ct er ad : EReal) : EReal :=
  x * (1 - wg * (ag * al + (1 - ag) * ct) * er) + wg * (ag * al + (1 - ag) * ct) * ad

/-- The stretch's last result over the scattered scores. -/
theorem v118_eq (b : Fin 64) (c : Fin 16384) (w : Fin 64) :
    after hostOps0_9 V (Proc.devRef .tc main_v118) (ix3 b c w) =
      newWord (V (Proc.devRef .tc main_arg0) (ix3 b c w)) (V (Proc.devRef .tc main_v31) (ix2 b 0)) (V (Proc.devRef .tc main_v25) (ix2 b 0))
        (after hostOps0_9 V (Proc.devRef .tc main_v96) (ix2 b c)) (V (Proc.devRef .tc main_v59) (ix2 b c))
        (V (Proc.devRef .tc main_v13) (ix2 b w)) (V (Proc.devRef .tc main_v2) (ix2 b w)) := by
  unfold newWord
  after_reads_at

/-- The new memory after the stretch. -/
theorem v118_at (r : Fin 64 → Fin 199 → ℝ) (m : Fin 64 → Fin 16384 → Fin 64 → ℝ)
    (hm : ∀ b c w, V (Proc.devRef .tc main_arg0) (ix3 b c w) = ((m b c w : ℝ) : EReal))
    (he : ∀ b w, V (Proc.devRef .tc main_v13) (ix2 b w) = ((Spec.era (r b) w : ℝ) : EReal))
    (ha : ∀ b w, V (Proc.devRef .tc main_v2) (ix2 b w) = ((Spec.add (r b) w : ℝ) : EReal))
    (hag : ∀ b, V (Proc.devRef .tc main_v25) (ix2 b 0) = ((Spec.agate (r b) : ℝ) : EReal))
    (hwg : ∀ b, V (Proc.devRef .tc main_v31) (ix2 b 0) = ((Spec.wgate (r b) : ℝ) : EReal))
    (hc : ∀ b c, V (Proc.devRef .tc main_v59) (ix2 b c) = ((Spec.content (r b) (m b) c : ℝ) : EReal))
    (hu : ∀ (b : Fin 64) (c : Fin 16384), V (Proc.devRef .tc main_v66) (ix2 b c) = ((Spec.eps : ℝ) : EReal))
    (hs : ∀ (b : Fin 64) (c : Fin 16384), V (Proc.devRef .tc main_v65) (ix2 b c) = BitVec.ofNat 32 c.val)
    (hp : ∀ (j : Fin 16384) (b : Fin 64), V (Proc.devRef .tc main_v70_3) (ix2 j b) = ((Spec.eps ^ (j.val + 1) : ℝ) : EReal))
    (b : Fin 64) (c : Fin 16384) (w : Fin 64) :
    after hostOps0_9 V (Proc.devRef .tc main_v118) (ix3 b c w) = ((Spec.out (r b) (m b) c w : ℝ) : EReal) := by
  have h96 : after hostOps0_9 V (Proc.devRef .tc main_v96) (ix2 b c) = ((Spec.alloc c.val : ℝ) : EReal) := by
    rw [show after hostOps0_9 V (Proc.devRef .tc main_v96) = Host.scatter scatter_S64x16384_S64x16384x2_S64x16384_n_01_01_2 (fun _ b => b)
        (after hostOps0_9 V (Proc.devRef .tc main_v79)) (after hostOps0_9 V (Proc.devRef .tc main_v95)) (after hostOps0_9 V (Proc.devRef .tc main_v78)) from by
      after_reads_simp
      rfl]
    exact (scatter_self _ _ _ (v95_0_at V) (v95_1_at V hs) b c).trans (v78_at V _ hu hp b c)
  rw [v118_eq, h96, hm, he, ha, hag, hwg, hc]
  unfold newWord Spec.out Spec.weight
  simp only [EReal.coe_add, EReal.coe_mul, EReal.coe_sub, EReal.coe_one]

end Cert.Proof.Ref
-- ==== Proof.Proof.RefValue.lean ====
/- The reference's result: the stretches' facts put together, from the launch to the end of the run. -/
module

public import proofs.«01_k».proof.Proof.Proof.RefRead
public import proofs.«01_k».proof.Proof.Proof.RefLoop
public import proofs.«01_k».proof.Proof.Proof.RefTail

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen Cert.ReferenceIdeal.Value
open Cert.Proof

/-- The contents after the first stretch. -/
abbrev W1 (V : Valuation τ sig (Elt Ideal)) : Valuation τ sig (Elt Ideal) := after hostOps0 V
/-- The contents after the second stretch. -/
abbrev W2 (V : Valuation τ sig (Elt Ideal)) : Valuation τ sig (Elt Ideal) := after hostOps0_1 (W1 V)
/-- The contents after the third stretch. -/
abbrev W3 (V : Valuation τ sig (Elt Ideal)) : Valuation τ sig (Elt Ideal) := after hostOps0_2 (W2 V)
/-- The contents after the fourth stretch. -/
abbrev W4 (V : Valuation τ sig (Elt Ideal)) : Valuation τ sig (Elt Ideal) := after hostOps0_3 (W3 V)
/-- The contents after the fifth stretch. -/
abbrev W5 (V : Valuation τ sig (Elt Ideal)) : Valuation τ sig (Elt Ideal) := after hostOps0_4 (W4 V)
/-- The contents after the sixth stretch. -/
abbrev W6 (V : Valuation τ sig (Elt Ideal)) : Valuation τ sig (Elt Ideal) := after hostOps0_5 (W5 V)
/-- The contents after the seventh stretch. -/
abbrev W7 (V : Valuation τ sig (Elt Ideal)) : Valuation τ sig (Elt Ideal) := after hostOps0_6 (W6 V)
/-- The contents after the eighth stretch. -/
abbrev W8 (V : Valuation τ sig (Elt Ideal)) : Valuation τ sig (Elt Ideal) := after hostOps0_7 (W7 V)
/-- The contents after the ninth stretch, at the loop's entry. -/
abbrev W9 (V : Valuation τ sig (Elt Ideal)) : Valuation τ sig (Elt Ideal) := after hostOps0_8 (W8 V)

/-- What the first stretch does not write is as it was. -/
theorem W1_same (V : Valuation τ sig (Elt Ideal)) (r : Ref sig .tc) (h : r ∉ hostOps0_dst) :
    W1 V (Proc.devRef .tc r) = V (Proc.devRef .tc r) := hostOps0_same _ r h
/-- What the second stretch does not write is as it was. -/
theorem W2_same (V : Valuation τ sig (Elt Ideal)) (r : Ref sig .tc) (h : r ∉ hostOps0_1_dst) :
    W2 V (Proc.devRef .tc r) = W1 V (Proc.devRef .tc r) := hostOps0_1_same _ r h
/-- What the third stretch does not write is as it was. -/
theorem W3_same (V : Valuation τ sig (Elt Ideal)) (r : Ref sig .tc) (h : r ∉ hostOps0_2_dst) :
    W3 V (Proc.devRef .tc r) = W2 V (Proc.devRef .tc r) := hostOps0_2_same _ r h
/-- What the fourth stretch does not write is as it was. -/
theorem W4_same (V : Valuation τ sig (Elt Ideal)) (r : Ref sig .tc) (h : r ∉ hostOps0_3_dst) :
    W4 V (Proc.devRef .tc r) = W3 V (Proc.devRef .tc r) := hostOps0_3_same _ r h
/-- What the fifth stretch does not write is as it was. -/
theorem W5_same (V : Valuation τ sig (Elt Ideal)) (r : Ref sig .tc) (h : r ∉ hostOps0_4_dst) :
    W5 V (Proc.devRef .tc r) = W4 V (Proc.devRef .tc r) := hostOps0_4_same _ r h
/-- What the sixth stretch does not write is as it was. -/
theorem W6_same (V : Valuation τ sig (Elt Ideal)) (r : Ref sig .tc) (h : r ∉ hostOps0_5_dst) :
    W6 V (Proc.devRef .tc r) = W5 V (Proc.devRef .tc r) := hostOps0_5_same _ r h
/-- What the seventh stretch does not write is as it was. -/
theorem W7_same (V : Valuation τ sig (Elt Ideal)) (r : Ref sig .tc) (h : r ∉ hostOps0_6_dst) :
    W7 V (Proc.devRef .tc r) = W6 V (Proc.devRef .tc r) := hostOps0_6_same _ r h
/-- What the eighth stretch does not write is as it was. -/
theorem W8_same (V : Valuation τ sig (Elt Ideal)) (r : Ref sig .tc) (h : r ∉ hostOps0_7_dst) :
    W8 V (Proc.devRef .tc r) = W7 V (Proc.devRef .tc r) := hostOps0_7_same _ r h
/-- What the ninth stretch does not write is as it was. -/
theorem W9_same (V : Valuation τ sig (Elt Ideal)) (r : Ref sig .tc) (h : r ∉ hostOps0_8_dst) :
    W9 V (Proc.devRef .tc r) = W8 V (Proc.devRef .tc r) := hostOps0_8_same _ r h

/-- The arguments hold real numbers: the memory `m` and the controls `r`. -/
structure Holds (V : Valuation τ sig (Elt Ideal)) (r : Fin 64 → Fin 199 → ℝ) (m : Fin 64 → Fin 16384 → Fin 64 → ℝ) : Prop where
  mem : ∀ b c w, V (Proc.devRef .tc main_arg0) (ix3 b c w) = ((m b c w : ℝ) : EReal)
  ctl : ∀ b j, V (Proc.devRef .tc main_arg1) (ix2 b j) = ((r b j : ℝ) : EReal)

variable {V : Valuation τ sig (Elt Ideal)} {r : Fin 64 → Fin 199 → ℝ} {m : Fin 64 → Fin 16384 → Fin 64 → ℝ} (h : Holds V r m)
include h

/-- The strength after its stretch. -/
theorem W2_v7 (b : Fin 64) : W2 V (Proc.devRef .tc main_v7) (ix2 b 0) = ((Spec.beta (r b) : ℝ) : EReal) :=
  v7_at _ b _ ((v4_at V b).trans (h.ctl _ _))

/-- The erase vector after its stretch. -/
theorem W3_v13 (b : Fin 64) (w : Fin 64) : W3 V (Proc.devRef .tc main_v13) (ix2 b w) = ((Spec.era (r b) w : ℝ) : EReal) := by
  refine v13_at _ b w _ ?_
  rw [W2_same _ _ (by decide)]
  exact (v1_at V b w).trans (h.ctl _ _)

/-- The allocation gate after its stretch. -/
theorem W3_v25 (b : Fin 64) : W3 V (Proc.devRef .tc main_v25) (ix2 b 0) = ((Spec.agate (r b) : ℝ) : EReal) := by
  refine v25_at _ b _ ?_
  rw [W2_same _ _ (by decide)]
  exact (v5_at V b).trans (h.ctl _ _)

/-- The write gate after its stretch. -/
theorem W3_v31 (b : Fin 64) : W3 V (Proc.devRef .tc main_v31) (ix2 b 0) = ((Spec.wgate (r b) : ℝ) : EReal) := by
  refine v31_at _ b _ ?_
  rw [W2_same _ _ (by decide)]
  exact (v6_at V b).trans (h.ctl _ _)

/-- The key after its stretch. -/
theorem W3_v34 (b : Fin 64) (w : Fin 64) : W3 V (Proc.devRef .tc main_v34) (ix4 b 0 0 w) = ((Spec.key (r b) w : ℝ) : EReal) := by
  refine (v34_at _ b w).trans ?_
  rw [W2_same _ _ (by decide)]
  exact (v0_at V b w).trans (h.ctl _ _)

/-- The memory after its stretch. -/
theorem W3_v33 (b : Fin 64) (c : Fin 16384) (w : Fin 64) : W3 V (Proc.devRef .tc main_v33) (ix4 b 0 c w) = ((m b c w : ℝ) : EReal) := by
  refine (v33_at _ b c w).trans ?_
  rw [W2_same _ _ (by decide), W1_same _ _ (by decide)]
  exact h.mem _ _ _

/-- The key's length after its stretch. -/
theorem W4_v35 (b : Fin 64) : W4 V (Proc.devRef .tc main_v35) (ix3 b 0 0) = ((Spec.knorm (r b) : ℝ) : EReal) :=
  v35_at _ b (Spec.key (r b)) fun w => W3_v34 h b w

/-- The cells' lengths after their stretch. -/
theorem W5_v36 (b : Fin 64) (c : Fin 16384) : W5 V (Proc.devRef .tc main_v36) (ix3 b 0 c) = ((Spec.mnorm (m b) c : ℝ) : EReal) := by
  refine v36_at _ b c (m b c) fun w => ?_
  rw [W4_same _ _ (by decide)]
  exact W3_v33 h b c w

/-- The content weights after their stretch. -/
theorem W6_v59 (b : Fin 64) (c : Fin 16384) : W6 V (Proc.devRef .tc main_v59) (ix2 b c) = ((Spec.content (r b) (m b) c : ℝ) : EReal) := by
  refine v59_at _ b c (r b) (m b) (fun w => ?_) (fun c w => ?_) ?_ (fun c => ?_) ?_
  · rw [W5_same _ _ (by decide), W4_same _ _ (by decide)]
    exact W3_v34 h b w
  · rw [W5_same _ _ (by decide), W4_same _ _ (by decide)]
    exact W3_v33 h b c w
  · rw [W5_same _ _ (by decide)]
    exact W4_v35 h b
  · exact W5_v36 h b c
  · rw [W5_same _ _ (by decide), W4_same _ _ (by decide), W3_same _ _ (by decide)]
    exact W2_v7 h b

omit h in
/-- The sorted places after their stretch. -/
theorem W7_v65 (b : Fin 64) (c : Fin 16384) : W7 V (Proc.devRef .tc main_v65) (ix2 b c) = BitVec.ofNat 32 c.val :=
  v65_at _ _ (v64_at (W5 V)) b c

omit h in
/-- The usages in sorted order after their stretch. -/
theorem W8_v66 (b : Fin 64) (c : Fin 16384) : W8 V (Proc.devRef .tc main_v66) (ix2 b c) = ((Spec.eps : ℝ) : EReal) := by
  refine v66_at _ _ (fun b c => ?_) W7_v65 b c
  rw [W7_same _ _ (by decide)]
  exact v64_at (W5 V) b c

omit h in
/-- The rows that the loop reads. -/
theorem W9_v70_0 (c : Fin 16384) (b : Fin 64) : W9 V (Proc.devRef .tc main_v70_0) (ix2 c b) = ((Spec.eps : ℝ) : EReal) :=
  (v70_0_at _ b c).trans (W8_v66 b c)

omit h in
/-- The contents at the loop's entry. -/
theorem entry_eq (m : (ℓ : Loc nD τ sig) → Buf (Elt Ideal) ℓ) (c : Dev nD) : entryContents preI m c = W9 (launchContents m c) := rfl

omit h in
/-- The reference's result at the end of the run, over the real numbers that its arguments hold. -/
theorem result (μ : (ℓ : Loc nD τ sig) → Buf (Elt Ideal) ℓ) (d : Dev nD) (h : Holds (launchContents μ d) r m) (b : Fin 64) (c : Fin 16384) (w : Fin 64) :
    finalContents condOps preI bodyI postI 16384 μ d (Proc.devRef .tc main_v118) (ix3 b c w) = ((Spec.out (r b) (m b) c w : ℝ) : EReal) := by
  rw [final_eq]
  refine v118_at _ r m (fun b c w => ?_) (fun b w => ?_) (fun b w => ?_) (fun b => ?_) (fun b => ?_) (fun b c => ?_) (fun b c => ?_) (fun b c => ?_) (fun j b => ?_) b c w
  · rw [condOps_same _ _ (by decide), trips_same μ d _ (by decide), entry_same μ d _ (by decide)]
    exact h.mem b c w
  · rw [condOps_same _ _ (by decide), trips_same μ d _ (by decide), entry_eq, W9_same _ _ (by decide), W8_same _ _ (by decide),
      W7_same _ _ (by decide), W6_same _ _ (by decide), W5_same _ _ (by decide), W4_same _ _ (by decide)]
    exact W3_v13 h b w
  · rw [condOps_same _ _ (by decide), trips_same μ d _ (by decide), entry_eq, W9_same _ _ (by decide), W8_same _ _ (by decide),
      W7_same _ _ (by decide), W6_same _ _ (by decide), W5_same _ _ (by decide), W4_same _ _ (by decide),
      W3_same _ _ (by decide), W2_same _ _ (by decide)]
    exact (v2_at _ b w).trans (h.ctl _ _)
  · rw [condOps_same _ _ (by decide), trips_same μ d _ (by decide), entry_eq, W9_same _ _ (by decide), W8_same _ _ (by decide),
      W7_same _ _ (by decide), W6_same _ _ (by decide), W5_same _ _ (by decide), W4_same _ _ (by decide)]
    exact W3_v25 h b
  · rw [condOps_same _ _ (by decide), trips_same μ d _ (by decide), entry_eq, W9_same _ _ (by decide), W8_same _ _ (by decide),
      W7_same _ _ (by decide), W6_same _ _ (by decide), W5_same _ _ (by decide), W4_same _ _ (by decide)]
    exact W3_v31 h b
  · rw [condOps_same _ _ (by decide), trips_same μ d _ (by decide), entry_eq, W9_same _ _ (by decide), W8_same _ _ (by decide),
      W7_same _ _ (by decide)]
    exact W6_v59 h b c
  · rw [condOps_same _ _ (by decide), trips_same μ d _ (by decide), entry_eq, W9_same _ _ (by decide)]
    exact W8_v66 b c
  · rw [condOps_same _ _ (by decide), trips_same μ d _ (by decide), entry_eq, W9_same _ _ (by decide), W8_same _ _ (by decide)]
    exact W7_v65 b c
  · rw [condOps_same _ _ (by decide)]
    exact table_end μ d Spec.eps (fun j b => W9_v70_0 j b) (fun b => v70_2_at _ b) j b

end Cert.Proof.Ref
-- ==== Proof.Proof.KerBlock.lean ====
/- What the kernel's body stores for one block of two batch rows, at an index and over the real numbers. -/
module

public import proofs.«01_k».proof.Proof.Gen.KernelIdeal.Frame
public import proofs.«01_k».proof.Proof.Proof.Spec
public import Idealize.ShloMosaic.Lib.StableHlo.ReadAt

@[expose] public section

set_option maxRecDepth 16384

noncomputable section

namespace Cert.Proof.Ker

open Idealize.ShloMosaic Idealize.ShloMosaic.TcCoe Idealize.ShloMosaic.StableHlo Idealize.SL.Sem
open Cert.KernelIdeal Cert.KernelIdeal.Gen
open Cert.Proof

variable (x0 : FVec Ideal S2x64x16384 .f32) (x1 : FVec Ideal S2x1x199 .f32) (r : Fin 2 → Fin 199 → ℝ) (m : Fin 2 → Fin 16384 → Fin 64 → ℝ)
  (h0 : ∀ b w c, x0 (ix3 b w c) = ((m b c w : ℝ) : EReal)) (h1 : ∀ b j, x1 (ix3 b 0 j) = ((r b j : ℝ) : EReal))

/-- The value of the named logarithm. -/
theorem log_eps_value : (Named.named κ "log_eps" 0xC1935D8E#32 : Ideal .f32) = ((Real.log Spec.eps : ℝ) : EReal) :=
  IdealRules.named_const.ideal_named_scalar _ _ _ _ rfl

include h0 in
/-- The block of the memory. -/
theorem pay2_at (b : Fin 2) (w : Fin 64) (c : Fin 16384) : k0_pay2 (F := Ideal) x0 (ix3 b w c) = ((m b c w : ℝ) : EReal) := by
  pointwise [k0_pay2]
  exact h0 b w c

include h1 in
/-- The erase vector. -/
theorem pay4_at (b : Fin 2) (w : Fin 64) : k0_pay4 (F := Ideal) x1 (ix3 b 0 w) = ((Spec.era (r b) w : ℝ) : EReal) := by
  pointwise [k0_pay4, k0_pay3]
  rw [h1, Spec.sg_ker]
  rfl

include h1 in
/-- The add vector. -/
theorem pay5_at (b : Fin 2) (w : Fin 64) : k0_pay5 (F := Ideal) x1 (ix3 b 0 w) = ((Spec.add (r b) w : ℝ) : EReal) := by
  pointwise [k0_pay5, k0_pay3]
  rw [h1]
  rfl

include h1 in
/-- The allocation gate. -/
theorem pay6_at (b : Fin 2) : k0_pay6 (F := Ideal) x1 (ix3 b 0 0) = ((Spec.agate (r b) : ℝ) : EReal) := by
  pointwise [k0_pay6, k0_pay3]
  rw [h1, Spec.sg_ker]
  rfl

include h1 in
/-- The write gate. -/
theorem pay7_at (b : Fin 2) : k0_pay7 (F := Ideal) x1 (ix3 b 0 0) = ((Spec.wgate (r b) : ℝ) : EReal) := by
  pointwise [k0_pay7, k0_pay3]
  rw [h1, Spec.sg_ker]
  rfl

include h0 h1 in
/-- The scores. -/
theorem pay8_at (b : Fin 2) (c : Fin 16384) : k0_pay8 (F := Ideal) x0 x1 (ix3 b 0 c) = ((Spec.score (r b) (m b) c : ℝ) : EReal) := by
  have hk : ∀ w : Fin 64, r b ⟨w.val, by omega⟩ = Spec.key (r b) w := fun _ => rfl
  have hb := Spec.sp_ker (φ := .f32) (r b ⟨196, by omega⟩)
  have hq : Ideal.sqrt ((∑ w, Spec.key (r b) w * Spec.key (r b) w : ℝ) : EReal) = ((Spec.knorm (r b) : ℝ) : EReal) :=
    Spec.sqrt_real _ (Finset.sum_nonneg fun w _ => mul_self_nonneg _)
  have hn : Ideal.sqrt ((∑ w, m b c w * m b c w : ℝ) : EReal) = ((Spec.mnorm (m b) c : ℝ) : EReal) :=
    Spec.sqrt_real _ (Finset.sum_nonneg fun w _ => mul_self_nonneg _)
  pointwise [k0_pay8, k0_pay3, k0_pay2]
  simp only [h0, h1, hk, ← EReal.coe_mul, Spec.sum_real, Spec.eps_word, hq, hn]
  rw [if_neg (fun h => h rfl)]
  refine (congrArg (fun s : EReal => Ideal.div (_ * s) _) hb).trans ?_
  rw [← EReal.coe_mul, ← EReal.coe_add, Spec.div_real _ _ (Spec.den_pos (r b) (m b) c).ne']
  exact congrArg _ (Spec.score_ker (r b) (m b) c)

include h0 h1 in
/-- The greatest score. -/
theorem pay9_at (b : Fin 2) : k0_pay9 (F := Ideal) x0 x1 (ix3 b 0 0) = ((Spec.top (r b) (m b) : ℝ) : EReal) := by
  have hs : ∀ x : Fin 1 × Fin 16384, k0_pay8 (F := Ideal) x0 x1 (ix3 b x.1 x.2) = ((Spec.score (r b) (m b) x.2 : ℝ) : EReal) := fun x => by
    rw [Subsingleton.elim x.1 0]
    exact pay8_at x0 x1 r m h0 h1 b x.2
  unfold k0_pay9
  pointwise
  simp only [hs, Spec.bot_word]
  rw [Spec.fold_real]
  refine congrArg _ (le_antisymm (Finset.sup'_le _ _ fun x _ => ?_) (Finset.sup'_le _ _ fun c _ => ?_))
  · exact Finset.le_sup' (Spec.score (r b) (m b)) (Finset.mem_univ x.2)
  · exact Finset.le_sup' (fun x : Fin 1 × Fin 16384 => Spec.score (r b) (m b) x.2) (Finset.mem_univ ((0 : Fin 1), c))

/-- What the body stores, from the values it computed before. -/
theorem pay1_at (v1 : FVec Ideal S2x64x16384 .f32) (v6 v7 : FVec Ideal S2x1x64 .f32) (v24 v26 : FVec Ideal S2x1x1 .f32)
    (v42 : FVec Ideal S2x1x16384 .f32) (v44 : FVec Ideal S2x1x1 .f32) (b : Fin 2) (w : Fin 64) (c : Fin 16384)
    (e1 : v1 (ix3 b w c) = ((m b c w : ℝ) : EReal)) (e6 : v6 (ix3 b 0 w) = ((Spec.era (r b) w : ℝ) : EReal))
    (e7 : v7 (ix3 b 0 w) = ((Spec.add (r b) w : ℝ) : EReal)) (e24 : v24 (ix3 b 0 0) = ((Spec.agate (r b) : ℝ) : EReal))
    (e26 : v26 (ix3 b 0 0) = ((Spec.wgate (r b) : ℝ) : EReal)) (e42 : ∀ c, v42 (ix3 b 0 c) = ((Spec.score (r b) (m b) c : ℝ) : EReal))
    (e44 : v44 (ix3 b 0 0) = ((Spec.top (r b) (m b) : ℝ) : EReal)) :
    k0_pay1 v1 v6 v7 v24 v26 v42 v44 (ix3 b w c) = ((Spec.out (r b) (m b) c w : ℝ) : EReal) := by
  have he : ∀ c, Ideal.exp (((Spec.score (r b) (m b) c : ℝ) : EReal) - ((Spec.top (r b) (m b) : ℝ) : EReal)) = ((Spec.ex (r b) (m b) c : ℝ) : EReal) := fun c => by
    rw [← EReal.coe_sub, Ideal.exp_coe, Spec.ex]
  have hi : (FloatOps.sitofp (F := Ideal) .f32 (BitVec.ofNat 32 c.val) : EReal) = ((c.val : ℝ) : EReal) := by
    have : (BitVec.ofNat 32 c.val).toInt = c.val := by
      rw [BitVec.toInt_eq_toNat_of_lt (by rw [BitVec.toNat_ofNat]; omega), BitVec.toNat_ofNat]
      omega
    show (((BitVec.ofNat 32 c.val).toInt : ℝ) : EReal) = _
    rw [this]
    simp
  have ht : ∑ c, ((Spec.ex (r b) (m b) c : ℝ) : EReal) = ((Spec.tot (r b) (m b) : ℝ) : EReal) := by rw [Spec.sum_real, Spec.tot]
  pointwise [k0_pay1]
  simp only [Fin.sum_univ_one, e1, e6, e7, e24, e26, e42, e44, he, hi, Spec.eps_word]
  rw [log_eps_value, ht, ← EReal.coe_one, ← EReal.coe_sub, ← EReal.coe_mul, Spec.div_real _ _ (Spec.tot_pos (r b) (m b)).ne']
  simp only [← EReal.coe_sub, ← EReal.coe_mul, ← EReal.coe_add, Ideal.exp_coe]
  rw [Spec.out_ker]

include h0 h1 in
/-- What the body stores for the two blocks it loads. -/
theorem block_at (b : Fin 2) (w : Fin 64) (c : Fin 16384) :
    k0_pay1 (k0_pay2 x0) (k0_pay4 x1) (k0_pay5 x1) (k0_pay6 x1) (k0_pay7 x1) (k0_pay8 x0 x1) (k0_pay9 (F := Ideal) x0 x1) (ix3 b w c)
      = ((Spec.out (r b) (m b) c w : ℝ) : EReal) :=
  pay1_at r m _ _ _ _ _ _ _ b w c (pay2_at x0 m h0 b w c) (pay4_at x1 r h1 b w) (pay5_at x1 r h1 b w) (pay6_at x1 r h1 b) (pay7_at x1 r h1 b)
    (pay8_at x0 x1 r m h0 h1 b) (pay9_at x0 x1 r m h0 h1 b)

end Cert.Proof.Ker
-- ==== Proof.Proof.KerArray.lean ====
/- The array that the kernel's region leaves, and the result of its program, over the real numbers. -/
module

public import proofs.«01_k».proof.Proof.Proof.KerBlock
public import Idealize.ShloMosaic.Lib.Pipeline.ValueKit

@[expose] public section

set_option maxRecDepth 16384

noncomputable section

namespace Cert.Proof.Ker

open Idealize.ShloMosaic Idealize.ShloMosaic.TcCoe Idealize.ShloMosaic.StableHlo Idealize.SL.Sem
open Cert.KernelIdeal Cert.KernelIdeal.Gen
open Cert.Proof

/-- The arguments of a launch hold real numbers. -/
structure Holds (μ : (ℓ : Loc nD τ sig) → Buf (Elt Ideal) ℓ) (d : Dev nD) (r : Fin 64 → Fin 199 → ℝ) (m : Fin 64 → Fin 16384 → Fin 64 → ℝ) : Prop where
  mem : ∀ b c w, μ ((d : Thread nD τ).loc main_arg0) (ix3 b c w) = ((m b c w : ℝ) : EReal)
  ctl : ∀ b j, μ ((d : Thread nD τ).loc main_arg1) (ix2 b j) = ((r b j : ℝ) : EReal)

/-- The blocks of the three windows follow the grid along the batch. -/
theorem idx : ∀ t : Fin grid0.N, win0_0.index t = ![t.val, 0, 0] ∧ win0_1.index t = ![t.val, 0, 0] ∧ win0_2.index t = ![t.val, 0, 0] := by
  decide +kernel

variable (μ : (ℓ : Loc nD τ sig) → Buf (Elt Ideal) ℓ) (d : Dev nD)
  {r : Fin 64 → Fin 199 → ℝ} {m : Fin 64 → Fin 16384 → Fin 64 → ℝ}

/-- The memory as the region finds it, its last two axes exchanged. -/
theorem entry0 (b : Fin 64) (w : Fin 64) (c : Fin 16384) : V μ d main_v0 (ix3 b w c) = μ ((d : Thread nD τ).loc main_arg0) (ix3 b c w) := by
  unfold V V0
  simp only [hostOps0, List.flatten_cons, List.flatten_nil, List.append_nil]
  after_reads_at

/-- The control vectors as the region finds them, with a unit axis in the middle. -/
theorem entry1 (b : Fin 64) (j : Fin 199) : V μ d main_v1 (ix3 b 0 j) = μ ((d : Thread nD τ).loc main_arg1) (ix2 b j) := by
  unfold V V0
  simp only [hostOps0, List.flatten_cons, List.flatten_nil, List.append_nil]
  after_reads_at

/-- The row of the batch that row `b` of point `t`'s block is. -/
def row (t : Fin grid0.N) (b : Fin 2) : Fin 64 := ⟨t.val * 2 + b.val, by have : grid0.N = 32 := rfl; omega⟩

/-- The memory's block at a point. -/
theorem block0 (t : Fin grid0.N) (b : Fin 2) (w : Fin 64) (c : Fin 16384) :
    iblk μ d 0 t (ix3 b w c) = μ ((d : Thread nD τ).loc main_arg0) (ix3 (row t b) c w) := by
  refine Eq.trans ?_ (entry0 μ d (row t b) w c)
  unfold row
  blk_ext [iblk, idx t]

/-- The control vectors' block at a point. -/
theorem block1 (t : Fin grid0.N) (b : Fin 2) (j : Fin 199) :
    iblk μ d 1 t (ix3 b 0 j) = μ ((d : Thread nD τ).loc main_arg1) (ix2 (row t b) j) := by
  refine Eq.trans ?_ (entry1 μ d (row t b) j)
  unfold row
  blk_ext [iblk, idx t]

/-- The region's array after the run. -/
theorem array (h : Holds μ d r m) :
    (dats μ 0 d).arrAt 2 (cfgs 0).N = fun j : S64x64x16384.Idx => ((Spec.out (r (j 0)) (m (j 0)) (j 2) (j 1) : ℝ) : EReal) := by
  refine (dats μ 0 d).arrAt_eq_of_covers 2 _ (by decide +kernel) fun t hf y => ?_
  blk_simp
  rw [after0_2]
  frame_out
  have e : ((View.whole main_v2).slice (win0_2.rect t)).emb y = ix3 (row t (y 0)) (y 1) (y 2) := by
    unfold row
    blk_ext [idx t]
  rw [e]
  have := block_at (iblk μ d 0 t) (iblk μ d 1 t) (fun b => r (row t b)) (fun b => m (row t b))
    (fun b w c => (block0 μ d t b w c).trans (h.mem _ _ _)) (fun b j => (block1 μ d t b j).trans (h.ctl _ _)) (y 0) (y 1) (y 2)
  exact (congrArg _ (eq_ix3 (y : S2x64x16384.Idx))).trans this

end Cert.Proof.Ker
-- ==== Proof.Proof.KerRun.lean ====
/- The kernel's program: it runs, its result holds the specification's numbers, its arguments end unchanged. -/
module

public import proofs.«01_k».proof.Proof.Proof.KerArray

@[expose] public section

set_option maxRecDepth 16384

noncomputable section

namespace Cert.Proof.Ker

open Idealize.ShloMosaic Idealize.ShloMosaic.TcCoe Idealize.ShloMosaic.StableHlo Idealize.SL.Sem
open Cert.KernelIdeal Cert.KernelIdeal.Gen
open Cert.Proof

variable (μ : (ℓ : Loc nD τ sig) → Buf (Elt Ideal) ℓ) (d : Dev nD)
  {r : Fin 64 → Fin 199 → ℝ} {m : Fin 64 → Fin 16384 → Fin 64 → ℝ}

/-- The result: the region's array with its last two axes exchanged back. -/
theorem tail_at (h : Holds μ d r m) (b : Fin 64) (c : Fin 16384) (w : Fin 64) :
    Pipeline.afterTail₀ cfgs (dats μ) 0 (V0 μ) [hostOps1] d main_v3 (ix3 b c w) = ((Spec.out (r b) (m b) c w : ℝ) : EReal) := by
  have e : Pipeline.withArrays spec0 d (V0 μ d) (fun w => (dats μ 0 d).arrAt w (cfgs 0).N) (Proc.devRef .tc main_v2) = (dats μ 0 d).arrAt 2 (cfgs 0).N :=
    Pipeline.withArrays_arr spec0 launch0.win.arr_inj d (V0 μ d) (fun w => (dats μ 0 d).arrAt w (cfgs 0).N) 2
  unfold Pipeline.afterTail₀
  simp only [hostOps1, List.flatten_cons, List.flatten_nil, List.append_nil]
  after_reads_at
  refine (congrFun (e.trans (array μ d h)) (ix3 b w c)).trans ?_
  rfl

/-- The kernel's run. -/
theorem run (ρ : Dev nD → PrngReg) : θ_run defs (onTc (τ := τ) (main (F := Ideal))) ⟨μ, fun _ => 0, ρ⟩ (fun s => ∀ d : Dev nD,
    s.2.mem ((d.tc : Thread nD τ).loc main_v3) = Pipeline.afterTail₀ cfgs (dats μ) 0 (V0 μ) [hostOps1] d main_v3
    ∧ s.2.mem ((d.tc : Thread nD τ).loc main_arg0) = μ ((d.tc : Thread nD τ).loc main_arg0)
    ∧ s.2.mem ((d.tc : Thread nD τ).loc main_arg1) = μ ((d.tc : Thread nD τ).loc main_arg1)
    ∧ s.2.mem ((d.tc : Thread nD τ).loc main_arg2) = μ ((d.tc : Thread nD τ).loc main_arg2)) :=
  (θ_run defs _ _).mono (fun s h d => ⟨(h d).2 main_v3 (by decide +kernel),
    ((h d).2 main_arg0 (by decide +kernel)).trans (W_main_arg0 μ (dats μ) d),
    ((h d).2 main_arg1 (by decide +kernel)).trans (W_main_arg1 μ (dats μ) d),
    ((h d).2 main_arg2 (by decide +kernel)).trans (W_main_arg2 μ (dats μ) d)⟩) (run_main μ ρ)

end Cert.Proof.Ker
-- ==== Proof.Proof.Finite.lean ====
/- What the precondition says: every element of the memory and of the control vectors is a real number. -/
module

public import proofs.«01_k».proof.Proof.Gen.Pre_finite
public import Idealize.ShloMosaic.Lib.StableHlo.ReadAt
public import Idealize.ShloMosaic.Lib.Pointwise

@[expose] public section

set_option maxRecDepth 16384

noncomputable section

namespace Cert.Proof.Finite

open Idealize.ShloMosaic
open Cert.Pre_finite Cert.Pre_finite.Gen

attribute [local instance] Cert.Pre_finite.Gen.facts

variable (x : FVec Ideal S64x16384x64 .f32) (y : FVec Ideal S64x199 .f32) (z : FVec Ideal S64x4x16384 .f32)

/-- The word the test compares with is plus infinity. -/
theorem top_word : Ideal.ofBits .f32 2139095040#32 = (⊤ : EReal) := by
  simp [Ideal.ofBits, Ideal.ieee]

/-- An extended real whose absolute value passes the test is a real number. -/
theorem real_of_test (a : Ideal .f32) (h : BitVec.ofBool (decide (FloatOps.absf a < Ideal.ofBits .f32 2139095040#32)) = 1#1) :
    (a : EReal) = (((a : EReal).toReal : ℝ) : EReal) := by
  have ht : max (a : EReal) (-(a : EReal)) < ⊤ := by
    rw [top_word] at h
    by_contra hn
    have : decide (FloatOps.absf a < (⊤ : EReal)) = false := decide_eq_false hn
    rw [this] at h
    exact absurd h (by decide)
  obtain ⟨h1, h2⟩ := max_lt_iff.mp ht
  refine (EReal.coe_toReal h1.ne fun hb => ?_).symm
  rw [hb] at h2
  exact absurd h2 (by simp)

/-- An element of the memory is a real number. -/
theorem mem_real (h : (fn (F := Ideal) x y z).1 = fun _ => 1#1) (b : Fin 64) (c : Fin 16384) (w : Fin 64) :
    x (ix3 b c w) = (((x (ix3 b c w) : EReal).toReal : ℝ) : EReal) := by
  have e := congrFun h (ix3 b c w)
  pointwise [fn] at e
  exact real_of_test _ e

/-- An element of the control vectors is a real number. -/
theorem ctl_real (h : (fn (F := Ideal) x y z).2 = fun _ => 1#1) (b : Fin 64) (j : Fin 199) :
    y (ix2 b j) = (((y (ix2 b j) : EReal).toReal : ℝ) : EReal) := by
  have e := congrFun h (ix2 b j)
  pointwise [fn] at e
  exact real_of_test _ e

end Cert.Proof.Finite
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Proof.RefKeep
public import proofs.«01_k».proof.Proof.Gen.Pre_finite
public import proofs.«01_k».proof.Proof.Proof.RefValue
public import proofs.«01_k».proof.Proof.Proof.KerRun
public import proofs.«01_k».proof.Proof.Proof.Finite
public import Idealize.ShloMosaic.Adequacy
public import Idealize.ShloMosaic.Init

@[expose] public section

noncomputable section

namespace Cert.Proof

open Idealize.ShloMosaic Idealize.SL.Sem Cert.Kernel

/-- The idealized kernel and the idealized reference, on real arguments that agree, end with the same result: the one that the
    specification names. -/
theorem same_result : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v3, Ker.run m g, ?_⟩
  refine (θ_run Cert.ReferenceIdeal.defs _ _).mono (fun s h c => ⟨?_,
    (h c Cert.ReferenceIdeal.main_arg0 rfl).trans (Ref.final_arg m' c _ (by decide)),
    (h c Cert.ReferenceIdeal.main_arg1 rfl).trans (Ref.final_arg m' c _ (by decide)),
    (h c Cert.ReferenceIdeal.main_arg2 rfl).trans (Ref.final_arg m' c _ (by decide))⟩) (Cert.ReferenceIdeal.Value.run_fold m' g')
  refine (h c Cert.ReferenceIdeal.main_v118 rfl).trans (funext fun j => ?_)
  obtain ⟨e0, e1, -⟩ := hagree c
  have hk : Ker.Holds m c (fun b j => (m ((c.tc : Thread Cert.KernelIdeal.nD Cert.KernelIdeal.τ).loc Cert.KernelIdeal.main_arg1) (ix2 b j) : EReal).toReal)
      (fun b k w => (m ((c.tc : Thread Cert.KernelIdeal.nD Cert.KernelIdeal.τ).loc Cert.KernelIdeal.main_arg0) (ix3 b k w) : EReal).toReal) :=
    ⟨Finite.mem_real _ _ _ (hpre c).1, Finite.ctl_real _ _ _ (hpre c).2⟩
  have hr : Ref.Holds (StableHlo.launchContents m' c) (fun b j => (m ((c.tc : Thread Cert.KernelIdeal.nD Cert.KernelIdeal.τ).loc Cert.KernelIdeal.main_arg1) (ix2 b j) : EReal).toReal)
      (fun b k w => (m ((c.tc : Thread Cert.KernelIdeal.nD Cert.KernelIdeal.τ).loc Cert.KernelIdeal.main_arg0) (ix3 b k w) : EReal).toReal) :=
    ⟨fun b k w => (congrFun e0 (ix3 b k w)).trans (hk.mem b k w), fun b j => (congrFun e1 (ix2 b j)).trans (hk.ctl b j)⟩
  rw [eq_ix3 (j : Cert.KernelIdeal.S64x16384x64.Idx)]
  exact (Ref.result m' c hr _ _ _).trans (Ker.tail_at m c hk _ _ _).symm

/-- The claims of this certificate, together. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Ref.frame m ρ, fun m ρ _ => Ref.frame m ρ,
  IdealRules.named_const.statement Cert.KernelIdeal.κ "log_eps" .f32 0xC1935D8E#32 _ rfl, same_result⟩

end Cert.Proof

end
